-- ==== Defs.lean ====
def Pre_KernelIdeal [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_KernelIdeal [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts) (hPre_inputs_in_range : Cert.Pre_inputs_in_range.Facts),
    quiescent_KernelIdeal (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ algebraic_KernelIdeal_ReferenceIdeal (hKernelIdeal := hKernelIdeal) (hReferenceIdeal := hReferenceIdeal) (hPre_inputs_in_range := hPre_inputs_in_range)
-- ==== Pre_inputs_in_range.lean ====
abbrev S441000 : Shape := ⟨1, ![441000]⟩
abbrev S1x441000x1 : Shape := ⟨3, ![1, 441000, 1]⟩
abbrev S64x4097 : Shape := ⟨2, ![64, 4097]⟩
abbrev S64x441000 : Shape := ⟨2, ![64, 441000]⟩
abbrev S_ : Shape := ⟨0, ![]⟩

class Facts : Prop where
  bcast_S_S441000 : S_.BroadcastsInDim S441000 (![] : Fin 0 → Fin S441000.rank)
  bcast_S_S64x4097 : S_.BroadcastsInDim S64x4097 (![] : Fin 0 → Fin S64x4097.rank)
  bcast_S_S64x441000 : S_.BroadcastsInDim S64x441000 (![] : Fin 0 → Fin S64x441000.rank)

variable [Facts]

def fn {F : FTy → Type} [FloatOps F] (main_arg0 : FVec F S441000 .f32) (main_arg1 : FVec F S1x441000x1 .f32) (main_arg2 : FVec F S64x4097 .f32) (main_arg3 : FVec F S64x441000 .f32) (main_arg4 : IVec S_ 32) : IVec S441000 1 × IVec S64x4097 1 × IVec S64x441000 1 :=
  let main_cst : FVec F S_ .f32 := constant S_ .f32 0x00000000#32
  let main_v0 : FVec F S441000 .f32 := broadcastInDim S441000 ![] bcast_S_S441000 main_cst
  let main_v1 : IVec S441000 1 := cmpf .oge main_arg0 main_v0
  let main_cst_0 : FVec F S_ .f32 := constant S_ .f32 0x3F800000#32
  let main_v2 : FVec F S441000 .f32 := broadcastInDim S441000 ![] bcast_S_S441000 main_cst_0
  let main_v3 : IVec S441000 1 := cmpf .ole main_arg0 main_v2
  let main_v4 : IVec S441000 1 := andi main_v1 main_v3
  let main_v5 : FVec F S64x4097 .f32 := Host.absf main_arg2
  let main_cst_1 : FVec F S_ .f32 := constant S_ .f32 0x7F800000#32
  let main_v6 : FVec F S64x4097 .f32 := broadcastInDim S64x4097 ![] bcast_S_S64x4097 main_cst_1
  let main_v7 : IVec S64x4097 1 := cmpf .olt main_v5 main_v6
  let main_v8 : FVec F S64x441000 .f32 := Host.absf main_arg3
  let main_cst_2 : FVec F S_ .f32 := constant S_ .f32 0x7F800000#32
  let main_v9 : FVec F S64x441000 .f32 := broadcastInDim S64x441000 ![] bcast_S_S64x441000 main_cst_2
  let main_v10 : IVec S64x441000 1 := cmpf .olt main_v8 main_v9
  (main_v4, main_v7, main_v10)
-- ==== KernelIdeal.lean ====
abbrev S441000 : Shape := ⟨1, ![441000]⟩
abbrev S1x441000x1 : Shape := ⟨3, ![1, 441000, 1]⟩
abbrev S64x4097 : Shape := ⟨2, ![64, 4097]⟩
abbrev S64x441000 : Shape := ⟨2, ![64, 441000]⟩
abbrev S_ : Shape := ⟨0, ![]⟩
abbrev S64x4096 : Shape := ⟨2, ![64, 4096]⟩
abbrev S64x1 : Shape := ⟨2, ![64, 1]⟩
abbrev S64x129 : Shape := ⟨2, ![64, 129]⟩
abbrev S64x4226 : Shape := ⟨2, ![64, 4226]⟩
abbrev S4226x64 : Shape := ⟨2, ![4226, 64]⟩
abbrev S4225x64 : Shape := ⟨2, ![4225, 64]⟩
abbrev S4225x192 : Shape := ⟨2, ![4225, 192]⟩
abbrev S4240x192 : Shape := ⟨2, ![4240, 192]⟩
abbrev S458752 : Shape := ⟨1, ![458752]⟩
abbrev S8x57344 : Shape := ⟨2, ![8, 57344]⟩
abbrev S8x128 : Shape := ⟨2, ![8, 128]⟩
abbrev S8x4 : Shape := ⟨2, ![8, 4]⟩
abbrev S8x1x57344 : Shape := ⟨3, ![8, 1, 57344]⟩
abbrev S1x441000 : Shape := ⟨2, ![1, 441000]⟩
abbrev S1x1 : Shape := ⟨2, ![1, 1]⟩
abbrev S8x1024 : Shape := ⟨2, ![8, 1024]⟩
abbrev S8x1 : Shape := ⟨2, ![8, 1]⟩
abbrev S8 : Shape := ⟨1, ![8]⟩
abbrev S8x3 : Shape := ⟨2, ![8, 3]⟩
abbrev S8x125 : Shape := ⟨2, ![8, 125]⟩
abbrev S1x1x8192 : Shape := ⟨3, ![1, 1, 8192]⟩
abbrev S1x8192 : Shape := ⟨2, ![1, 8192]⟩
abbrev S64x8192 : Shape := ⟨2, ![64, 8192]⟩
abbrev S128x1024 : Shape := ⟨2, ![128, 1024]⟩
abbrev S1x1x1024 : Shape := ⟨3, ![1, 1, 1024]⟩
abbrev S1x1024 : Shape := ⟨2, ![1, 1024]⟩
abbrev S1x1x1 : Shape := ⟨3, ![1, 1, 1]⟩
abbrev S128x192 : Shape := ⟨2, ![128, 192]⟩
abbrev S192x1024 : Shape := ⟨2, ![192, 1024]⟩
abbrev S64x1024 : Shape := ⟨2, ![64, 1024]⟩
abbrev S1024 : Shape := ⟨1, ![1024]⟩

abbrev nBuf : Space → Nat
  | .hbm => 41
  | .vmem => 12
  | .smem => 1
  | _ => 0

abbrev bufTy : (tb : Table) → Fin (tcTables nBuf tb) → BufTy
  | .hbm, ⟨0, _⟩ => ⟨S441000, .f32⟩
  | .hbm, ⟨1, _⟩ => ⟨S1x441000x1, .f32⟩
  | .hbm, ⟨2, _⟩ => ⟨S64x4097, .f32⟩
  | .hbm, ⟨3, _⟩ => ⟨S64x441000, .f32⟩
  | .hbm, ⟨4, _⟩ => ⟨S_, .i32⟩
  | .hbm, ⟨5, _⟩ => ⟨S64x4096, .f32⟩
  | .hbm, ⟨6, _⟩ => ⟨S64x1, .f32⟩
  | .hbm, ⟨7, _⟩ => ⟨S64x4097, .f32⟩
  | .hbm, ⟨8, _⟩ => ⟨S64x129, .f32⟩
  | .hbm, ⟨9, _⟩ => ⟨S64x4226, .f32⟩
  | .hbm, ⟨10, _⟩ => ⟨S4226x64, .f32⟩
  | .hbm, ⟨11, _⟩ => ⟨S4225x64, .f32⟩
  | .hbm, ⟨12, _⟩ => ⟨S4225x64, .f32⟩
  | .hbm, ⟨13, _⟩ => ⟨S4225x64, .f32⟩
  | .hbm, ⟨14, _⟩ => ⟨S4225x64, .f32⟩
  | .hbm, ⟨15, _⟩ => ⟨S4225x64, .bf16⟩
  | .hbm, ⟨16, _⟩ => ⟨S4225x64, .f32⟩
  | .hbm, ⟨17, _⟩ => ⟨S4225x64, .f32⟩
  | .hbm, ⟨18, _⟩ => ⟨S4225x64, .bf16⟩
  | .hbm, ⟨19, _⟩ => ⟨S4225x64, .bf16⟩
  | .hbm, ⟨20, _⟩ => ⟨S4225x192, .bf16⟩
  | .hbm, ⟨21, _⟩ => ⟨S_, .i32⟩
  | .hbm, ⟨22, _⟩ => ⟨S_, .bf16⟩
  | .hbm, ⟨23, _⟩ => ⟨S4240x192, .bf16⟩
  | .hbm, ⟨24, _⟩ => ⟨S_, .f32⟩
  | .hbm, ⟨25, _⟩ => ⟨S441000, .f32⟩
  | .hbm, ⟨26, _⟩ => ⟨S441000, .f32⟩
  | .hbm, ⟨27, _⟩ => ⟨S_, .f32⟩
  | .hbm, ⟨28, _⟩ => ⟨S441000, .f32⟩
  | .hbm, ⟨29, _⟩ => ⟨S441000, .f32⟩
  | .hbm, ⟨30, _⟩ => ⟨S_, .i32⟩
  | .hbm, ⟨31, _⟩ => ⟨S_, .f32⟩
  | .hbm, ⟨32, _⟩ => ⟨S458752, .f32⟩
  | .hbm, ⟨33, _⟩ => ⟨S8x57344, .f32⟩
  | .hbm, ⟨34, _⟩ => ⟨S8x57344, .f32⟩
  | .hbm, ⟨35, _⟩ => ⟨S8x128, .f32⟩
  | .hbm, ⟨36, _⟩ => ⟨S8x4, .f32⟩
  | .hbm, ⟨37, _⟩ => ⟨S8x1x57344, .f32⟩
  | .hbm, ⟨38, _⟩ => ⟨S1x441000, .f32⟩
  | .hbm, ⟨39, _⟩ => ⟨S1x441000, .f32⟩
  | .hbm, ⟨40, _⟩ => ⟨S1x441000x1, .f32⟩
  | .local _ .vmem, ⟨0, _⟩ => ⟨S8x57344, .f32⟩
  | .local _ .vmem, ⟨1, _⟩ => ⟨S8x57344, .f32⟩
  | .local _ .vmem, ⟨2, _⟩ => ⟨S8x128, .f32⟩
  | .local _ .vmem, ⟨3, _⟩ => ⟨S1x1x8192, .f32⟩
  | .local _ .vmem, ⟨4, _⟩ => ⟨S1x1x8192, .f32⟩
  | .local _ .vmem, ⟨5, _⟩ => ⟨S1x8192, .f32⟩
  | .local _ .vmem, ⟨6, _⟩ => ⟨S1x8192, .f32⟩
  | .local _ .vmem, ⟨7, _⟩ => ⟨S64x8192, .f32⟩
  | .local _ .vmem, ⟨8, _⟩ => ⟨S64x8192, .f32⟩
  | .local _ .vmem, ⟨9, _⟩ => ⟨S4240x192, .bf16⟩
  | .local _ .vmem, ⟨10, _⟩ => ⟨S1x8192, .f32⟩
  | .local _ .vmem, ⟨11, _⟩ => ⟨S1x8192, .f32⟩
  | .local _ .smem, ⟨0, _⟩ => ⟨S8x4, .f32⟩
  | _, _ => ⟨S441000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_c : Ref sig .tc := ⟨.hbm, 21, rfl⟩
abbrev main_call0_call0_v0 : Ref sig .tc := ⟨.hbm, 22, rfl⟩
abbrev main_call0_v16 : Ref sig .tc := ⟨.hbm, 23, rfl⟩
abbrev main_call0_cst : Ref sig .tc := ⟨.hbm, 24, rfl⟩
abbrev main_call0_v17 : Ref sig .tc := ⟨.hbm, 25, rfl⟩
abbrev main_call0_v18 : Ref sig .tc := ⟨.hbm, 26, rfl⟩
abbrev main_call0_cst_0 : Ref sig .tc := ⟨.hbm, 27, rfl⟩
abbrev main_call0_v19 : Ref sig .tc := ⟨.hbm, 28, rfl⟩
abbrev main_call0_v20 : Ref sig .tc := ⟨.hbm, 29, rfl⟩
abbrev main_call0_c_1 : Ref sig .tc := ⟨.hbm, 30, rfl⟩
abbrev main_call0_call1_v0 : Ref sig .tc := ⟨.hbm, 31, rfl⟩
abbrev main_call0_v21 : Ref sig .tc := ⟨.hbm, 32, rfl⟩
abbrev main_call0_v22 : Ref sig .tc := ⟨.hbm, 33, rfl⟩
abbrev main_call0_v23_0 : Ref sig .tc := ⟨.hbm, 34, rfl⟩
abbrev main_call0_v23_1 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_v0 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c56_i32 : BitVec 32 := 56#32
  let v5 : BitVec 32 := Scalar.addi c0_i32 c56_i32
  let c1_i32 : BitVec 32 := 1#32
  ⟨c0_i32, v5, c1_i32⟩
def k0_off1 (k0_t1 : Fin k0_t1_loop.trips) : Fin 2 → Nat :=
  let c0_29 : Index := 0#32
  let c0_i32 : BitVec 32 := 0#32
  let c1_i32 : BitVec 32 := 1#32
  let arg3 : BitVec 32 := Scf.iv c0_i32 c1_i32 k0_t1
  let c1024_i32 : BitVec 32 := 1024#32
  let v81 : BitVec 32 := Scalar.muli arg3 c1024_i32
  let v82 : Index := Scalar.indexCast v81
  ![0, v82.toNat]
abbrev stage0_0 : Fin 1 → Memref sig .tc .vmem S8x57344 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x57344 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![54], ![false]⟩

def k1_off1 (i : grid1.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c7_i32 : BitVec 32 := 7#32
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let v0 : BitVec 32 := Scalar.divsi arg0 c7_i32
  let c1_i32 : BitVec 32 := 1#32
  let v15 : BitVec 32 := Scalar.subi v0 c1_i32
  let v16 : BitVec 32 := Scalar.select v14 v15 v0
  let v17 : Index := Scalar.indexCast v16
  let c0 : Index := 0#32
  ![v17.toNat, 0]
def k1_off2 (i : grid1.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c7_i32 : BitVec 32 := 7#32
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let v0 : BitVec 32 := Scalar.divsi arg0 c7_i32
  let c1_i32 : BitVec 32 := 1#32
  let v15 : BitVec 32 := Scalar.subi v0 c1_i32
  let v16 : BitVec 32 := Scalar.select v14 v15 v0
  let v19 : Index := Scalar.indexCast v16
  let c1 : Index := 1#32
  ![v19.toNat, 1]
def k1_off3 (v63 : BitVec 32) : Fin 2 → Nat :=
  let c0_i32_22 : BitVec 32 := 0#32
  let v65 : BitVec 1 := Scalar.cmpi .sgt v63 c0_i32_22
  let v66 : BitVec 32 := Scalar.extui v65
  let c0_i32_23 : BitVec 32 := 0#32
  let v67 : BitVec 1 := Scalar.cmpi .slt v63 c0_i32_23
  let v68 : BitVec 32 := Scalar.extui v67
  let v69 : BitVec 32 := Scalar.subi v66 v68
  let c16_i32 : BitVec 32 := 16#32
  let c0_i32_24 : BitVec 32 := 0#32
  let v70 : BitVec 1 := Scalar.cmpi .sgt c16_i32 c0_i32_24
  let v71 : BitVec 32 := Scalar.extui v70
  let c0_i32_25 : BitVec 32 := 0#32
  let v72 : BitVec 1 := Scalar.cmpi .slt c16_i32 c0_i32_25
  let v73 : BitVec 32 := Scalar.extui v72
  let v74 : BitVec 32 := Scalar.subi v71 v73
  let v75 : BitVec 1 := Scalar.cmpi .ne v69 v74
  let v76 : BitVec 32 := Scalar.remsi v63 c16_i32
  let c0_i32_26 : BitVec 32 := 0#32
  let v77 : BitVec 1 := Scalar.cmpi .ne v76 c0_i32_26
  let v78 : BitVec 1 := Scalar.andi v75 v77
  let v64 : BitVec 32 := Scalar.divsi v63 c16_i32
  let c1_i32_27 : BitVec 32 := 1#32
  let v79 : BitVec 32 := Scalar.subi v64 c1_i32_27
  let v80 : BitVec 32 := Scalar.select v78 v79 v64
  let c16_i32_28 : BitVec 32 := 16#32
  let v81 : BitVec 32 := Scalar.muli v80 c16_i32_28
  let v100 : Index := Scalar.indexCast v81
  let c0_32 : Index := 0#32
  ![v100.toNat, 0]

def k1_chk1 (v63 : BitVec 32) : Prop :=
  (∀ a, (k1_off3 v63) a + S128x192.size a ≤ S4240x192.size a)
theorem k1_off3_inb : ∀ (v63 : BitVec 32) (k1_hw1 : k1_chk1 v63), ∀ a, (k1_off3 v63) a + S128x192.size a ≤ S4240x192.size a := fun v63 k1_hw1 => k1_hw1

def k1_off4 (v167 : BitVec 32) : Fin 2 → Nat :=
  let c0_i32_61 : BitVec 32 := 0#32
  let v169 : BitVec 1 := Scalar.cmpi .sgt v167 c0_i32_61
  let v170 : BitVec 32 := Scalar.extui v169
  let c0_i32_62 : BitVec 32 := 0#32
  let v171 : BitVec 1 := Scalar.cmpi .slt v167 c0_i32_62
  let v172 : BitVec 32 := Scalar.extui v171
  let v173 : BitVec 32 := Scalar.subi v170 v172
  let c16_i32_60 : BitVec 32 := 16#32
  let c0_i32_63 : BitVec 32 := 0#32
  let v174 : BitVec 1 := Scalar.cmpi .sgt c16_i32_60 c0_i32_63
  let v175 : BitVec 32 := Scalar.extui v174
  let c0_i32_64 : BitVec 32 := 0#32
  let v176 : BitVec 1 := Scalar.cmpi .slt c16_i32_60 c0_i32_64
  let v177 : BitVec 32 := Scalar.extui v176
  let v178 : BitVec 32 := Scalar.subi v175 v177
  let v179 : BitVec 1 := Scalar.cmpi .ne v173 v178
  let v180 : BitVec 32 := Scalar.remsi v167 c16_i32_60
  let c0_i32_65 : BitVec 32 := 0#32
  let v181 : BitVec 1 := Scalar.cmpi .ne v180 c0_i32_65
  let v182 : BitVec 1 := Scalar.andi v179 v181
  let v168 : BitVec 32 := Scalar.divsi v167 c16_i32_60
  let c1_i32_66 : BitVec 32 := 1#32
  let v183 : BitVec 32 := Scalar.subi v168 c1_i32_66
  let v184 : BitVec 32 := Scalar.select v182 v183 v168
  let c16_i32_67 : BitVec 32 := 16#32
  let v185 : BitVec 32 := Scalar.muli v184 c16_i32_67
  let v204 : Index := Scalar.indexCast v185
  let c0_71 : Index := 0#32
  ![v204.toNat, 0]

def k1_chk2 (v167 : BitVec 32) : Prop :=
  (∀ a, (k1_off4 v167) a + S128x192.size a ≤ S4240x192.size a)
theorem k1_off4_inb : ∀ (v167 : BitVec 32) (k1_hw2 : k1_chk2 v167), ∀ a, (k1_off4 v167) a + S128x192.size a ≤ S4240x192.size a := fun v167 k1_hw2 => k1_hw2

def k1_off5 (v271 : BitVec 32) : Fin 2 → Nat :=
  let c0_i32_100 : BitVec 32 := 0#32
  let v273 : BitVec 1 := Scalar.cmpi .sgt v271 c0_i32_100
  let v274 : BitVec 32 := Scalar.extui v273
  let c0_i32_101 : BitVec 32 := 0#32
  let v275 : BitVec 1 := Scalar.cmpi .slt v271 c0_i32_101
  let v276 : BitVec 32 := Scalar.extui v275
  let v277 : BitVec 32 := Scalar.subi v274 v276
  let c16_i32_99 : BitVec 32 := 16#32
  let c0_i32_102 : BitVec 32 := 0#32
  let v278 : BitVec 1 := Scalar.cmpi .sgt c16_i32_99 c0_i32_102
  let v279 : BitVec 32 := Scalar.extui v278
  let c0_i32_103 : BitVec 32 := 0#32
  let v280 : BitVec 1 := Scalar.cmpi .slt c16_i32_99 c0_i32_103
  let v281 : BitVec 32 := Scalar.extui v280
  let v282 : BitVec 32 := Scalar.subi v279 v281
  let v283 : BitVec 1 := Scalar.cmpi .ne v277 v282
  let v284 : BitVec 32 := Scalar.remsi v271 c16_i32_99
  let c0_i32_104 : BitVec 32 := 0#32
  let v285 : BitVec 1 := Scalar.cmpi .ne v284 c0_i32_104
  let v286 : BitVec 1 := Scalar.andi v283 v285
  let v272 : BitVec 32 := Scalar.divsi v271 c16_i32_99
  let c1_i32_105 : BitVec 32 := 1#32
  let v287 : BitVec 32 := Scalar.subi v272 c1_i32_105
  let v288 : BitVec 32 := Scalar.select v286 v287 v272
  let c16_i32_106 : BitVec 32 := 16#32
  let v289 : BitVec 32 := Scalar.muli v288 c16_i32_106
  let v308 : Index := Scalar.indexCast v289
  let c0_110 : Index := 0#32
  ![v308.toNat, 0]

def k1_chk3 (v271 : BitVec 32) : Prop :=
  (∀ a, (k1_off5 v271) a + S128x192.size a ≤ S4240x192.size a)
theorem k1_off5_inb : ∀ (v271 : BitVec 32) (k1_hw3 : k1_chk3 v271), ∀ a, (k1_off5 v271) a + S128x192.size a ≤ S4240x192.size a := fun v271 k1_hw3 => k1_hw3

def k1_off6 (v375 : BitVec 32) : Fin 2 → Nat :=
  let c0_i32_139 : BitVec 32 := 0#32
  let v377 : BitVec 1 := Scalar.cmpi .sgt v375 c0_i32_139
  let v378 : BitVec 32 := Scalar.extui v377
  let c0_i32_140 : BitVec 32 := 0#32
  let v379 : BitVec 1 := Scalar.cmpi .slt v375 c0_i32_140
  let v380 : BitVec 32 := Scalar.extui v379
  let v381 : BitVec 32 := Scalar.subi v378 v380
  let c16_i32_138 : BitVec 32 := 16#32
  let c0_i32_141 : BitVec 32 := 0#32
  let v382 : BitVec 1 := Scalar.cmpi .sgt c16_i32_138 c0_i32_141
  let v383 : BitVec 32 := Scalar.extui v382
  let c0_i32_142 : BitVec 32 := 0#32
  let v384 : BitVec 1 := Scalar.cmpi .slt c16_i32_138 c0_i32_142
  let v385 : BitVec 32 := Scalar.extui v384
  let v386 : BitVec 32 := Scalar.subi v383 v385
  let v387 : BitVec 1 := Scalar.cmpi .ne v381 v386
  let v388 : BitVec 32 := Scalar.remsi v375 c16_i32_138
  let c0_i32_143 : BitVec 32 := 0#32
  let v389 : BitVec 1 := Scalar.cmpi .ne v388 c0_i32_143
  let v390 : BitVec 1 := Scalar.andi v387 v389
  let v376 : BitVec 32 := Scalar.divsi v375 c16_i32_138
  let c1_i32_144 : BitVec 32 := 1#32
  let v391 : BitVec 32 := Scalar.subi v376 c1_i32_144
  let v392 : BitVec 32 := Scalar.select v390 v391 v376
  let c16_i32_145 : BitVec 32 := 16#32
  let v393 : BitVec 32 := Scalar.muli v392 c16_i32_145
  let v412 : Index := Scalar.indexCast v393
  let c0_149 : Index := 0#32
  ![v412.toNat, 0]

def k1_chk4 (v375 : BitVec 32) : Prop :=
  (∀ a, (k1_off6 v375) a + S128x192.size a ≤ S4240x192.size a)
theorem k1_off6_inb : ∀ (v375 : BitVec 32) (k1_hw4 : k1_chk4 v375), ∀ a, (k1_off6 v375) a + S128x192.size a ≤ S4240x192.size a := fun v375 k1_hw4 => k1_hw4

def k1_off7 (v479 : BitVec 32) : Fin 2 → Nat :=
  let c0_i32_178 : BitVec 32 := 0#32
  let v481 : BitVec 1 := Scalar.cmpi .sgt v479 c0_i32_178
  let v482 : BitVec 32 := Scalar.extui v481
  let c0_i32_179 : BitVec 32 := 0#32
  let v483 : BitVec 1 := Scalar.cmpi .slt v479 c0_i32_179
  let v484 : BitVec 32 := Scalar.extui v483
  let v485 : BitVec 32 := Scalar.subi v482 v484
  let c16_i32_177 : BitVec 32 := 16#32
  let c0_i32_180 : BitVec 32 := 0#32
  let v486 : BitVec 1 := Scalar.cmpi .sgt c16_i32_177 c0_i32_180
  let v487 : BitVec 32 := Scalar.extui v486
  let c0_i32_181 : BitVec 32 := 0#32
  let v488 : BitVec 1 := Scalar.cmpi .slt c16_i32_177 c0_i32_181
  let v489 : BitVec 32 := Scalar.extui v488
  let v490 : BitVec 32 := Scalar.subi v487 v489
  let v491 : BitVec 1 := Scalar.cmpi .ne v485 v490
  let v492 : BitVec 32 := Scalar.remsi v479 c16_i32_177
  let c0_i32_182 : BitVec 32 := 0#32
  let v493 : BitVec 1 := Scalar.cmpi .ne v492 c0_i32_182
  let v494 : BitVec 1 := Scalar.andi v491 v493
  let v480 : BitVec 32 := Scalar.divsi v479 c16_i32_177
  let c1_i32_183 : BitVec 32 := 1#32
  let v495 : BitVec 32 := Scalar.subi v480 c1_i32_183
  let v496 : BitVec 32 := Scalar.select v494 v495 v480
  let c16_i32_184 : BitVec 32 := 16#32
  let v497 : BitVec 32 := Scalar.muli v496 c16_i32_184
  let v516 : Index := Scalar.indexCast v497
  let c0_188 : Index := 0#32
  ![v516.toNat, 0]

def k1_chk5 (v479 : BitVec 32) : Prop :=
  (∀ a, (k1_off7 v479) a + S128x192.size a ≤ S4240x192.size a)
theorem k1_off7_inb : ∀ (v479 : BitVec 32) (k1_hw5 : k1_chk5 v479), ∀ a, (k1_off7 v479) a + S128x192.size a ≤ S4240x192.size a := fun v479 k1_hw5 => k1_hw5

def k1_off8 (v583 : BitVec 32) : Fin 2 → Nat :=
  let c0_i32_217 : BitVec 32 := 0#32
  let v585 : BitVec 1 := Scalar.cmpi .sgt v583 c0_i32_217
  let v586 : BitVec 32 := Scalar.extui v585
  let c0_i32_218 : BitVec 32 := 0#32
  let v587 : BitVec 1 := Scalar.cmpi .slt v583 c0_i32_218
  let v588 : BitVec 32 := Scalar.extui v587
  let v589 : BitVec 32 := Scalar.subi v586 v588
  let c16_i32_216 : BitVec 32 := 16#32
  let c0_i32_219 : BitVec 32 := 0#32
  let v590 : BitVec 1 := Scalar.cmpi .sgt c16_i32_216 c0_i32_219
  let v591 : BitVec 32 := Scalar.extui v590
  let c0_i32_220 : BitVec 32 := 0#32
  let v592 : BitVec 1 := Scalar.cmpi .slt c16_i32_216 c0_i32_220
  let v593 : BitVec 32 := Scalar.extui v592
  let v594 : BitVec 32 := Scalar.subi v591 v593
  let v595 : BitVec 1 := Scalar.cmpi .ne v589 v594
  let v596 : BitVec 32 := Scalar.remsi v583 c16_i32_216
  let c0_i32_221 : BitVec 32 := 0#32
  let v597 : BitVec 1 := Scalar.cmpi .ne v596 c0_i32_221
  let v598 : BitVec 1 := Scalar.andi v595 v597
  let v584 : BitVec 32 := Scalar.divsi v583 c16_i32_216
  let c1_i32_222 : BitVec 32 := 1#32
  let v599 : BitVec 32 := Scalar.subi v584 c1_i32_222
  let v600 : BitVec 32 := Scalar.select v598 v599 v584
  let c16_i32_223 : BitVec 32 := 16#32
  let v601 : BitVec 32 := Scalar.muli v600 c16_i32_223
  let v620 : Index := Scalar.indexCast v601
  let c0_227 : Index := 0#32
  ![v620.toNat, 0]

def k1_chk6 (v583 : BitVec 32) : Prop :=
  (∀ a, (k1_off8 v583) a + S128x192.size a ≤ S4240x192.size a)
theorem k1_off8_inb : ∀ (v583 : BitVec 32) (k1_hw6 : k1_chk6 v583), ∀ a, (k1_off8 v583) a + S128x192.size a ≤ S4240x192.size a := fun v583 k1_hw6 => k1_hw6

def k1_off9 (v687 : BitVec 32) : Fin 2 → Nat :=
  let c0_i32_256 : BitVec 32 := 0#32
  let v689 : BitVec 1 := Scalar.cmpi .sgt v687 c0_i32_256
  let v690 : BitVec 32 := Scalar.extui v689
  let c0_i32_257 : BitVec 32 := 0#32
  let v691 : BitVec 1 := Scalar.cmpi .slt v687 c0_i32_257
  let v692 : BitVec 32 := Scalar.extui v691
  let v693 : BitVec 32 := Scalar.subi v690 v692
  let c16_i32_255 : BitVec 32 := 16#32
  let c0_i32_258 : BitVec 32 := 0#32
  let v694 : BitVec 1 := Scalar.cmpi .sgt c16_i32_255 c0_i32_258
  let v695 : BitVec 32 := Scalar.extui v694
  let c0_i32_259 : BitVec 32 := 0#32
  let v696 : BitVec 1 := Scalar.cmpi .slt c16_i32_255 c0_i32_259
  let v697 : BitVec 32 := Scalar.extui v696
  let v698 : BitVec 32 := Scalar.subi v695 v697
  let v699 : BitVec 1 := Scalar.cmpi .ne v693 v698
  let v700 : BitVec 32 := Scalar.remsi v687 c16_i32_255
  let c0_i32_260 : BitVec 32 := 0#32
  let v701 : BitVec 1 := Scalar.cmpi .ne v700 c0_i32_260
  let v702 : BitVec 1 := Scalar.andi v699 v701
  let v688 : BitVec 32 := Scalar.divsi v687 c16_i32_255
  let c1_i32_261 : BitVec 32 := 1#32
  let v703 : BitVec 32 := Scalar.subi v688 c1_i32_261
  let v704 : BitVec 32 := Scalar.select v702 v703 v688
  let c16_i32_262 : BitVec 32 := 16#32
  let v705 : BitVec 32 := Scalar.muli v704 c16_i32_262
  let v724 : Index := Scalar.indexCast v705
  let c0_266 : Index := 0#32
  ![v724.toNat, 0]

def k1_chk7 (v687 : BitVec 32) : Prop :=
  (∀ a, (k1_off9 v687) a + S128x192.size a ≤ S4240x192.size a)
theorem k1_off9_inb : ∀ (v687 : BitVec 32) (k1_hw7 : k1_chk7 v687), ∀ a, (k1_off9 v687) a + S128x192.size a ≤ S4240x192.size a := fun v687 k1_hw7 => k1_hw7

def k1_off10 (v791 : BitVec 32) : Fin 2 → Nat :=
  let c0_i32_295 : BitVec 32 := 0#32
  let v793 : BitVec 1 := Scalar.cmpi .sgt v791 c0_i32_295
  let v794 : BitVec 32 := Scalar.extui v793
  let c0_i32_296 : BitVec 32 := 0#32
  let v795 : BitVec 1 := Scalar.cmpi .slt v791 c0_i32_296
  let v796 : BitVec 32 := Scalar.extui v795
  let v797 : BitVec 32 := Scalar.subi v794 v796
  let c16_i32_294 : BitVec 32 := 16#32
  let c0_i32_297 : BitVec 32 := 0#32
  let v798 : BitVec 1 := Scalar.cmpi .sgt c16_i32_294 c0_i32_297
  let v799 : BitVec 32 := Scalar.extui v798
  let c0_i32_298 : BitVec 32 := 0#32
  let v800 : BitVec 1 := Scalar.cmpi .slt c16_i32_294 c0_i32_298
  let v801 : BitVec 32 := Scalar.extui v800
  let v802 : BitVec 32 := Scalar.subi v799 v801
  let v803 : BitVec 1 := Scalar.cmpi .ne v797 v802
  let v804 : BitVec 32 := Scalar.remsi v791 c16_i32_294
  let c0_i32_299 : BitVec 32 := 0#32
  let v805 : BitVec 1 := Scalar.cmpi .ne v804 c0_i32_299
  let v806 : BitVec 1 := Scalar.andi v803 v805
  let v792 : BitVec 32 := Scalar.divsi v791 c16_i32_294
  let c1_i32_300 : BitVec 32 := 1#32
  let v807 : BitVec 32 := Scalar.subi v792 c1_i32_300
  let v808 : BitVec 32 := Scalar.select v806 v807 v792
  let c16_i32_301 : BitVec 32 := 16#32
  let v809 : BitVec 32 := Scalar.muli v808 c16_i32_301
  let v828 : Index := Scalar.indexCast v809
  let c0_305 : Index := 0#32
  ![v828.toNat, 0]

def k1_chk8 (v791 : BitVec 32) : Prop :=
  (∀ a, (k1_off10 v791) a + S128x192.size a ≤ S4240x192.size a)
theorem k1_off10_inb : ∀ (v791 : BitVec 32) (k1_hw8 : k1_chk8 v791), ∀ a, (k1_off10 v791) a + S128x192.size a ≤ S4240x192.size a := fun v791 k1_hw8 => k1_hw8

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S8x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4240x192 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S441000 : Shape := ⟨1, ![441000]⟩
abbrev S1x441000x1 : Shape := ⟨3, ![1, 441000, 1]⟩
abbrev S64x4097 : Shape := ⟨2, ![64, 4097]⟩
abbrev S64x441000 : Shape := ⟨2, ![64, 441000]⟩
abbrev S_ : Shape := ⟨0, ![]⟩
abbrev S64x4096 : Shape := ⟨2, ![64, 4096]⟩
abbrev S64x1 : Shape := ⟨2, ![64, 1]⟩
abbrev S1 : Shape := ⟨1, ![1]⟩
abbrev S441000x1 : Shape := ⟨2, ![441000, 1]⟩
abbrev S1x1 : Shape := ⟨2, ![1, 1]⟩
abbrev S1x441000 : Shape := ⟨2, ![1, 441000]⟩

abbrev nBuf : Space → Nat
  | .hbm => 136
  | .vmem => 0
  | .smem => 0
  | _ => 0

abbrev hbmTy0_0 (i : Nat) : BufTy := match i % 128 with
  | 0 => ⟨S441000, .f32⟩
  | 1 => ⟨S1x441000x1, .f32⟩
  | 2 => ⟨S64x4097, .f32⟩
  | 3 => ⟨S64x441000, .f32⟩
  | 4 => ⟨S_, .i32⟩
  | 5 => ⟨S64x4096, .f32⟩
  | 6 => ⟨S64x1, .f32⟩
  | 7 => ⟨S64x4097, .f32⟩
  | 8 => ⟨S_, .f32⟩
  | 9 => ⟨S441000, .f32⟩
  | 10 => ⟨S441000, .f32⟩
  | 11 => ⟨S_, .f32⟩
  | 12 => ⟨S441000, .f32⟩
  | 13 => ⟨S441000, .f32⟩
  | 14 => ⟨S_, .f32⟩
  | 15 => ⟨S_, .f32⟩
  | 16 => ⟨S441000, .f32⟩
  | 17 => ⟨S1, .f32⟩
  | 18 => ⟨S_, .f32⟩
  | 19 => ⟨S441000, .f32⟩
  | 20 => ⟨S441000, .f32⟩
  | 21 => ⟨S_, .i32⟩
  | 22 => ⟨S_, .f32⟩
  | 23 => ⟨S441000, .f32⟩
  | 24 => ⟨S441000, .f32⟩
  | 25 => ⟨S_, .f32⟩
  | 26 => ⟨S441000, .f32⟩
  | 27 => ⟨S441000, .i1⟩
  | 28 => ⟨S_, .f32⟩
  | 29 => ⟨S441000, .f32⟩
  | 30 => ⟨S441000, .i1⟩
  | 31 => ⟨S_, .f32⟩
  | 32 => ⟨S_, .i1⟩
  | 33 => ⟨S441000, .i1⟩
  | 34 => ⟨S441000, .i1⟩
  | 35 => ⟨S441000, .i1⟩
  | 36 => ⟨S441000, .f32⟩
  | 37 => ⟨S441000, .f32⟩
  | 38 => ⟨S441000, .f32⟩
  | 39 => ⟨S441000, .f32⟩
  | 40 => ⟨S441000, .f32⟩
  | 41 => ⟨S441000, .f32⟩
  | 42 => ⟨S441000, .i32⟩
  | 43 => ⟨S441000, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S441000, .i32⟩
  | 51 => ⟨S441000, .i32⟩
  | 52 => ⟨S_, .i32⟩
  | 53 => ⟨S441000, .i32⟩
  | 54 => ⟨S441000, .i1⟩
  | 55 => ⟨S_, .i32⟩
  | 56 => ⟨S441000, .i32⟩
  | 57 => ⟨S441000, .i1⟩
  | 58 => ⟨S_, .i32⟩
  | 59 => ⟨S_, .i1⟩
  | 60 => ⟨S441000, .i1⟩
  | 61 => ⟨S441000, .i1⟩
  | 62 => ⟨S441000, .i1⟩
  | 63 => ⟨S441000, .i32⟩
  | 64 => ⟨S441000, .i32⟩
  | 65 => ⟨S441000, .i32⟩
  | 66 => ⟨S_, .i32⟩
  | 67 => ⟨S441000, .i32⟩
  | 68 => ⟨S441000, .i1⟩
  | 69 => ⟨S_, .i32⟩
  | 70 => ⟨S441000, .i32⟩
  | 71 => ⟨S441000, .i32⟩
  | 72 => ⟨S441000, .i32⟩
  | 73 => ⟨S441000x1, .i32⟩
  | 74 => ⟨S1, .i32⟩
  | 75 => ⟨S_, .i32⟩
  | 76 => ⟨S441000x1, .i32⟩
  | 77 => ⟨S441000x1, .i1⟩
  | 78 => ⟨S1x1, .i32⟩
  | 79 => ⟨S441000x1, .i32⟩
  | 80 => ⟨S441000x1, .i1⟩
  | 81 => ⟨S441000x1, .i1⟩
  | 82 => ⟨S_, .i1⟩
  | 83 => ⟨S441000, .i1⟩
  | 84 => ⟨S64x441000, .f32⟩
  | 85 => ⟨S64x441000, .i1⟩
  | 86 => ⟨S_, .f32⟩
  | 87 => ⟨S64x441000, .f32⟩
  | 88 => ⟨S64x441000, .f32⟩
  | 89 => ⟨S_, .i32⟩
  | 90 => ⟨S441000, .i32⟩
  | 91 => ⟨S441000, .i1⟩
  | 92 => ⟨S_, .i32⟩
  | 93 => ⟨S441000, .i32⟩
  | 94 => ⟨S441000, .i32⟩
  | 95 => ⟨S441000, .i32⟩
  | 96 => ⟨S441000x1, .i32⟩
  | 97 => ⟨S1, .i32⟩
  | 98 => ⟨S_, .i32⟩
  | 99 => ⟨S441000x1, .i32⟩
  | 100 => ⟨S441000x1, .i1⟩
  | 101 => ⟨S1x1, .i32⟩
  | 102 => ⟨S441000x1, .i32⟩
  | 103 => ⟨S441000x1, .i1⟩
  | 104 => ⟨S441000x1, .i1⟩
  | 105 => ⟨S_, .i1⟩
  | 106 => ⟨S441000, .i1⟩
  | 107 => ⟨S64x441000, .f32⟩
  | 108 => ⟨S64x441000, .i1⟩
  | 109 => ⟨S_, .f32⟩
  | 110 => ⟨S64x441000, .f32⟩
  | 111 => ⟨S64x441000, .f32⟩
  | 112 => ⟨S1x441000, .f32⟩
  | 113 => ⟨S64x441000, .f32⟩
  | 114 => ⟨S64x441000, .f32⟩
  | 115 => ⟨S64x441000, .f32⟩
  | 116 => ⟨S64x441000, .f32⟩
  | 117 => ⟨S_, .f32⟩
  | 118 => ⟨S441000, .f32⟩
  | 119 => ⟨S_, .f32⟩
  | 120 => ⟨S441000, .f32⟩
  | 121 => ⟨S441000, .f32⟩
  | 122 => ⟨S1x441000, .f32⟩
  | 123 => ⟨S64x441000, .f32⟩
  | 124 => ⟨S64x441000, .f32⟩
  | 125 => ⟨S64x441000, .f32⟩
  | 126 => ⟨S_, .f32⟩
  | 127 => ⟨S441000, .f32⟩
  | _ => ⟨S441000, .f32⟩

abbrev hbmTy0_1 (i : Nat) : BufTy := match i % 128 with
  | 0 => ⟨S1x441000, .f32⟩
  | 1 => ⟨S64x441000, .f32⟩
  | 2 => ⟨S64x441000, .f32⟩
  | 3 => ⟨S64x441000, .f32⟩
  | 4 => ⟨S_, .f32⟩
  | 5 => ⟨S441000, .f32⟩
  | 6 => ⟨S1x441000x1, .f32⟩
  | 7 => ⟨S1x441000x1, .f32⟩
  | _ => ⟨S441000, .f32⟩

abbrev hbmTy (i : Nat) : BufTy := match i / 128 with
  | 0 => hbmTy0_0 i
  | 1 => hbmTy0_1 i
  | _ => ⟨S441000, .f32⟩

abbrev bufTy : (tb : Table) → Fin (tcTables nBuf tb) → BufTy
  | .hbm, ⟨i, _⟩ => hbmTy i
  | _, _ => ⟨S441000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_call0_call0_cst : Ref sig .tc := ⟨.hbm, 14, rfl⟩
abbrev main_call0_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_cst : Ref sig .tc := ⟨.hbm, 25, rfl⟩
abbrev main_call1_v3 : Ref sig .tc := ⟨.hbm, 26, rfl⟩
abbrev main_call1_v4 : Ref sig .tc := ⟨.hbm, 27, rfl⟩
abbrev main_call1_cst_0 : Ref sig .tc := ⟨.hbm, 28, rfl⟩
abbrev main_call1_v5 : Ref sig .tc := ⟨.hbm, 29, rfl⟩
abbrev main_call1_v6 : Ref sig .tc := ⟨.hbm, 30, rfl⟩
abbrev main_call1_cst_1 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_v12 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v18 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_c_1 : Ref sig .tc := ⟨.hbm, 74, rfl⟩
abbrev main_call3_c_2 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_3 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_call3_cst : Ref sig .tc := ⟨.hbm, 86, rfl⟩
abbrev main_call3_v15 : Ref sig .tc := ⟨.hbm, 87, rfl⟩
abbrev main_v19 : Ref sig .tc := ⟨.hbm, 88, rfl⟩
abbrev main_call4_c : Ref sig .tc := ⟨.hbm, 89, rfl⟩
abbrev main_call4_v0 : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_c_1 : Ref sig .tc := ⟨.hbm, 97, rfl⟩
abbrev main_call4_c_2 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_3 : Ref sig .tc := ⟨.hbm, 105, rfl⟩
abbrev main_call4_v12 : Ref sig .tc := ⟨.hbm, 106, rfl⟩
abbrev main_call4_v13 : Ref sig .tc := ⟨.hbm, 107, rfl⟩
abbrev main_call4_v14 : Ref sig .tc := ⟨.hbm, 108, rfl⟩
abbrev main_call4_cst : Ref sig .tc := ⟨.hbm, 109, rfl⟩
abbrev main_call4_v15 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_cst_2 : Ref sig .tc := ⟨.hbm, 117, rfl⟩
abbrev main_v26 : Ref sig .tc := ⟨.hbm, 118, rfl⟩
abbrev main_cst_3 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_cst_4 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_cst_5 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩

abbrev nD : Nat := 1
abbrev τ : Topo := Topo.v7x

variable {F : FTy → Type} [FloatOps F]
-- ==== Proof.Kernel.Cond.lean ====
module

public import proofs.«01_k».proof.Proof.Gen.KernelIdeal.Regions

@[expose] public section

set_option maxRecDepth 16384

noncomputable section

namespace Cert.Proof.Kernel

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- the launch theorem's implicit arguments are found by unifying its conclusion with this one
set_option backward.isDefEq.respectTransparency.types false in
/-- THE RUN, GIVEN THE REGIONS. When each of the two regions takes the buffers from the contents before it to those
    after it, every execution of the program terminates with the result at the last host stretch's contents, the
    arguments as launched, and every counter at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD,
      r.2.mem ((c.tc : Thread nD τ).loc main_v0) = V5 m outs c main_v0
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_v0) = V5 m outs c main_v0 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c)⟩
    · iexact HSI

end Cert.Proof.Kernel

end
-- ==== Proof.Scan.Run.lean ====
module

public import proofs.«01_k».proof.Proof.Gen.KernelIdeal.Points
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The scan's resources: the increments read at their contents, the running sums and the row carries written. -/
abbrev Held0 (c : Dev nD)
    (arg0 : Memref sig .tc .vmem S8x57344 .f32) (arg1 : Memref sig .tc .vmem S8x57344 .f32) (arg2 : Memref sig .tc .vmem S8x128 .f32)
    (X0 : BufTy.Contents (Elt F) arg0.view.ty) (X1 : BufTy.Contents (Elt F) arg1.view.ty) (X2 : BufTy.Contents (Elt F) arg2.view.ty) :
    sProp 𝕄G :=
  iprop((arg0.view.loc (c : Thread nD τ) ↦[arg0.view.set]{fullShare} X0) ∗ (arg1.view.loc (c : Thread nD τ) ↦[arg1.view.set]{fullShare} X1)
        ∗ (arg2.view.loc (c : Thread nD τ) ↦[arg2.view.set]{fullShare} X2))

section
variable (𝒱 : Variants) (c : Dev nD) (bd : Option 𝒱.V)
    (arg0 : Memref sig .tc .vmem S8x57344 .f32) (harg0 : arg0.IsWhole) (arg1 : Memref sig .tc .vmem S8x57344 .f32) (harg1 : arg1.IsWhole)
    (arg2 : Memref sig .tc .vmem S8x128 .f32) (harg2 : arg2.IsWhole) (X0 : BufTy.Contents (Elt F) arg0.view.ty)

/-- The chunk of increments trip `k` reads. -/
def chunkAt (k : Fin k0_t1_loop.trips) : Vec F S8x1024 .f32 :=
  arg0.view.readAt (Elt F) (Rect.unit (s := S8x57344) (k0_off1 k) S8x1024.size (k0_off1_inb k)).toLoadRect X0

/-- The carry and the compensation before trip `k`, and the stores of the trips before, last first. -/
def state (k : ℕ) : (FVec F S8x1 .f32 × FVec F S8x1 .f32) × List (View.Piece (Elt F) S8x57344 .f32) :=
  st_k0_t1 𝒱 c bd arg0 harg0 arg1 harg1 arg2 harg2 (iota .tc S8x1024 32 [1] iota_S8x1024_d1_w32) X0 (k0_pay6 (F := F), k0_pay6 (F := F)) k

/-- One trip's effect on the state. -/
theorem state_succ (k : Fin k0_t1_loop.trips) :
    state 𝒱 c bd arg0 harg0 arg1 harg1 arg2 harg2 X0 (k.val + 1)
      = ((k0_pay9 (state 𝒱 c bd arg0 harg0 arg1 harg1 arg2 harg2 X0 k.val).1.1 (state 𝒱 c bd arg0 harg0 arg1 harg1 arg2 harg2 X0 k.val).1.2
            (k0_pay2 (chunkAt arg0 X0 k)),
          k0_pay10 (state 𝒱 c bd arg0 harg0 arg1 harg1 arg2 harg2 X0 k.val).1.1 (state 𝒱 c bd arg0 harg0 arg1 harg1 arg2 harg2 X0 k.val).1.2
            (k0_pay2 (chunkAt arg0 X0 k))),
        (⟨Rect.unit (s := S8x57344) (k0_off1 k) S8x1024.size (k0_off1_inb k),
          k0_pay7 (state 𝒱 c bd arg0 harg0 arg1 harg1 arg2 harg2 X0 k.val).1.1 (state 𝒱 c bd arg0 harg0 arg1 harg1 arg2 harg2 X0 k.val).1.2
            (k0_pay3 (iota .tc S8x1024 32 [1] iota_S8x1024_d1_w32) (chunkAt arg0 X0 k))
            (k0_pay4 (iota .tc S8x1024 32 [1] iota_S8x1024_d1_w32) (chunkAt arg0 X0 k))⟩ : View.Piece (Elt F) S8x57344 .f32)
          :: (state 𝒱 c bd arg0 harg0 arg1 harg1 arg2 harg2 X0 k.val).2) := by
  unfold state
  rw [st_k0_t1_succ]
  unfold tripR_k0_t1 tripL_k0_t1
  rw [trip_k0_t1.eq_1]
  rfl

/-- The stores into the row carries: one, of the whole array. -/
def rowPiece : View.Piece (Elt F) S8x128 .f32 :=
  ⟨Rect.unit (s := S8x128) ![0, 0] S8x128.size inb_S8x128_S8x128_0_0,
    k0_pay1 (k0_pay5 (arg0.view.readAt (Elt F) (Rect.unit (s := S8x57344) ![0, 0] S1x1.size inb_S8x57344_S1x1_0_0).toLoadRect X0))
      (iota .tc S8x1 32 [0] iota_S8x1_d0_w32)
      (k0_pay13 (state 𝒱 c bd arg0 harg0 arg1 harg1 arg2 harg2 X0 k0_t1_loop.trips).1.1)
      (k0_pay14 (state 𝒱 c bd arg0 harg0 arg1 harg1 arg2 harg2 X0 k0_t1_loop.trips).1.1
        (state 𝒱 c bd arg0 harg0 arg1 harg1 arg2 harg2 X0 k0_t1_loop.trips).1.2) k0_pay15⟩

/-- The scan's run: what it stores into the running sums and the row carries. -/
def scanRun :
    Σ' (L1 : List (View.Piece (Elt F) S8x57344 .f32)), { L2 : List (View.Piece (Elt F) S8x128 .f32) //
      ∀ (E : Set ℕ) (X1 : BufTy.Contents (Elt F) arg1.view.ty) (X2 : BufTy.Contents (Elt F) arg2.view.ty),
      Held0 (F := F) c arg0 arg1 arg2 X0 X1 X2
      ⊢ wp Idealize.ShloMosaic.frame (wpE (defs₀ (F := F)) 𝒱 (c : Thread nD τ) bd) E (cc0__cumsum_kernel (F := F) arg0 harg0 arg1 harg1 arg2 harg2)
          (fun _ => Held0 (F := F) c arg0 arg1 arg2 X0 (arg1.view.writes (Elt F) X1 L1) (arg2.view.writes (Elt F) X2 L2)) } := by
  refine ⟨?_, ?_, fun E X1 X2 => ?run⟩
  case run =>
    iintro ⟨H0, H1, H2⟩
    sl_exec
    sl_step
    sl_close

/-- The running sums' stores are those of the trips. -/
theorem scanRun_sums : (scanRun 𝒱 c bd arg0 harg0 arg1 harg1 arg2 harg2 X0).1
    = (state 𝒱 c bd arg0 harg0 arg1 harg1 arg2 harg2 X0 k0_t1_loop.trips).2 := by
  unfold scanRun; rfl

/-- The row carries' one store. -/
theorem scanRun_rows : (scanRun 𝒱 c bd arg0 harg0 arg1 harg1 arg2 harg2 X0).2.1
    = [rowPiece 𝒱 c bd arg0 harg0 arg1 harg1 arg2 harg2 X0] := by
  unfold scanRun; rfl

end

end Cert.Proof.Scan

end
-- ==== Proof.Math.Prefix.lean ====
module

public import Idealize.ShloMosaic.Lib.Pointwise

@[expose] public section

noncomputable section

namespace Cert.Proof

/-! Sums of the last few terms of a sequence: what a scan by doubling shifts holds between its stages. -/

/-- The sum of the last `w` terms up to place `c`, fewer when the sequence starts within them. -/
def lastSum (g : ℕ → ℝ) (w c : ℕ) : ℝ := ∑ i ∈ Finset.range w, if i ≤ c then g (c - i) else 0

/-- One term is the term itself. -/
theorem lastSum_one (g : ℕ → ℝ) (c : ℕ) : lastSum g 1 c = g c := by
  simp [lastSum]

/-- Adding the sum that ends `w` places before doubles the number of terms. -/
theorem lastSum_double (g : ℕ → ℝ) (w c : ℕ) :
    lastSum g w c + (if w ≤ c then lastSum g w (c - w) else 0) = lastSum g (w + w) c := by
  unfold lastSum
  rw [Finset.sum_range_add]
  congr 1
  by_cases h : w ≤ c
  · rw [if_pos h]
    refine Finset.sum_congr rfl fun i _ => ?_
    by_cases h' : i ≤ c - w
    · rw [if_pos h', if_pos (by omega), Nat.sub_sub]
    · rw [if_neg h', if_neg (by omega)]
  · rw [if_neg h]
    exact (Finset.sum_eq_zero fun i _ => if_neg (by omega)).symm

/-- With as many terms as there are places, the sum is that of every term so far. -/
theorem lastSum_all (g : ℕ → ℝ) (w c : ℕ) (h : c < w) : lastSum g w c = ∑ j ∈ Finset.range (c + 1), g j := by
  unfold lastSum
  obtain ⟨d, rfl⟩ : ∃ d, w = (c + 1) + d := ⟨w - (c + 1), by omega⟩
  rw [Finset.sum_range_add, Finset.sum_eq_zero (s := Finset.range d) (fun i _ => if_neg (by omega)), add_zero,
    ← Finset.sum_range_reflect]
  refine Finset.sum_congr rfl fun i hi => ?_
  rw [Finset.mem_range] at hi
  rw [if_pos (by omega)]
  congr 1; omega

end Cert.Proof

end
-- ==== Proof.Math.Softmax.lean ====
module

public import Idealize.ShloMosaic.Lib.Pointwise

@[expose] public section

noncomputable section

namespace Cert.Proof

open Idealize.ShloMosaic

/-! The attention weights: a softmax over the 64 wavetables, and the oscillator's value at one sample. -/

/-- The softmax weight of wavetable `n` among the 64 scores `a`. -/
def weight (a : Fin 64 → ℝ) (n : Fin 64) : ℝ := Real.exp (a n) / ∑ m, Real.exp (a m)

/-- The linear interpolation of row `y` of a table of rows, `y` a nonnegative real. -/
def lerp (tab : ℕ → Fin 64 → ℝ) (y : ℝ) (n : Fin 64) : ℝ :=
  tab ⌊y⌋.toNat n + (y - (⌊y⌋ : ℝ)) * (tab (⌊y⌋.toNat + 1) n - tab ⌊y⌋.toNat n)

/-- The weighted sum of the 64 interpolated wavetables at table position `y`. -/
def voice (tab : ℕ → Fin 64 → ℝ) (a : Fin 64 → ℝ) (y : ℝ) : ℝ := ∑ n, lerp tab y n * weight a n

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The greatest of finitely many reals, at least one, is a real. -/
theorem fold_max_real (a : Fin 64 → ℝ) :
    ∃ M : ℝ, Finset.fold max (⊥ : EReal) (fun n => (a n : EReal)) Finset.univ = (M : EReal) := by
  have key : ∀ s : Finset (Fin 64), s.Nonempty → ∃ M : ℝ, Finset.fold max (⊥ : EReal) (fun n => (a n : EReal)) s = (M : EReal) := by
    intro s hs
    induction hs using Finset.Nonempty.cons_induction with
    | singleton i => exact ⟨a i, by simp⟩
    | cons i s hi hs ih =>
      obtain ⟨M, hM⟩ := ih
      exact ⟨max (a i) M, by rw [Finset.fold_cons, hM]; exact (EReal.coe_strictMono.monotone.map_max).symm⟩
  exact key _ Finset.univ_nonempty

/-- A weight is unchanged when one number is subtracted from every score. -/
theorem weight_shift (a : Fin 64 → ℝ) (M : ℝ) (n : Fin 64) :
    Real.exp (a n - M) / ∑ m, Real.exp (a m - M) = weight a n := by
  have h : ∀ m, Real.exp (a m - M) = Real.exp (a m) * Real.exp (-M) := fun m => by rw [← Real.exp_add]; rfl
  simp only [h, ← Finset.sum_mul]
  exact mul_div_mul_right _ _ (Real.exp_ne_zero _)

/-- The denominator of the softmax is positive. -/
theorem sum_exp_pos (a : Fin 64 → ℝ) (M : ℝ) : 0 < ∑ m, Real.exp (a m - M) :=
  Finset.sum_pos (fun _ _ => Real.exp_pos _) Finset.univ_nonempty

/-- Dividing the weighted sum by the sum of the exponentials, as the kernel does, weights by the softmax. -/
theorem ratio_of_sums (a w : Fin 64 → ℝ) (M : ℝ) :
    Ideal.div (∑ n, (w n : EReal) * Ideal.exp ((a n : EReal) - (M : EReal))) (∑ n, Ideal.exp ((a n : EReal) - (M : EReal)))
      = ((∑ n, w n * weight a n : ℝ) : EReal) := by
  have hp := sum_exp_pos a M
  have e1 : (∑ n, (w n : EReal) * Ideal.exp ((a n : EReal) - (M : EReal))) = ((∑ n, w n * Real.exp (a n - M) : ℝ) : EReal) := by
    rw [coe_sum]; refine Finset.sum_congr rfl fun n _ => ?_
    rw [← EReal.coe_sub, Ideal.exp_coe, ← EReal.coe_mul]
  have e2 : (∑ n, Ideal.exp ((a n : EReal) - (M : EReal))) = ((∑ n, Real.exp (a n - M) : ℝ) : EReal) := by
    rw [coe_sum]; refine Finset.sum_congr rfl fun n _ => ?_
    rw [← EReal.coe_sub, Ideal.exp_coe]
  rw [e1, e2, Ideal.div_coe hp.ne', ← EReal.coe_mul, Finset.sum_mul]
  congr 1
  refine Finset.sum_congr rfl fun n _ => ?_
  rw [← weight_shift a M n]; ring

/-- Weighting each term by its share of the sum of the exponentials, as the plain formula does, is the same. -/
theorem sum_of_ratios (a w : Fin 64 → ℝ) (M : ℝ) :
    (∑ n, (w n : EReal) * Ideal.div (Ideal.exp ((a n : EReal) - (M : EReal))) (∑ n, Ideal.exp ((a n : EReal) - (M : EReal))))
      = ((∑ n, w n * weight a n : ℝ) : EReal) := by
  have hp := sum_exp_pos a M
  have e2 : (∑ n, Ideal.exp ((a n : EReal) - (M : EReal))) = ((∑ n, Real.exp (a n - M) : ℝ) : EReal) := by
    rw [coe_sum]; refine Finset.sum_congr rfl fun n _ => ?_
    rw [← EReal.coe_sub, Ideal.exp_coe]
  rw [e2, coe_sum Finset.univ (fun n => w n * weight a n)]
  refine Finset.sum_congr rfl fun n _ => ?_
  rw [Ideal.div_coe hp.ne', ← EReal.coe_sub, Ideal.exp_coe, ← EReal.coe_mul, ← EReal.coe_mul, ← weight_shift a M n, mul_one_div]

end Cert.Proof

end
-- ==== Proof.Scan.Value.lean ====
module

public import proofs.«01_k».proof.Proof.Gen.KernelIdeal.Skeleton
public import proofs.«01_k».proof.Proof.Math.Prefix
public import proofs.«01_k».proof.Proof.Math.Softmax
public import Idealize.ShloMosaic.Lib.Pointwise

@[expose] public section

set_option maxRecDepth 16384

noncomputable section

namespace Cert.Proof.Scan

open Cert.KernelIdeal Cert.KernelIdeal.Gen
open Idealize.ShloMosaic Idealize.ShloMosaic.TcCoe Idealize.SL.Sem

/-- One stage of the scan along the lanes: the vector plus itself shifted `k` lanes up, zeros shifted in. -/
def stage (k : BitVec 32) (x : FVec Ideal S8x1024 .f32) : FVec Ideal S8x1024 .f32 :=
  addf x (select (cmpi .sge (iota .tc S8x1024 32 [1] iota_S8x1024_d1_w32) (broadcast S8x1024 k))
    (dynamicRotate 1 k none x rotates_S8x1024_d1) (broadcast S8x1024 (Scalar.ofBits .f32 0x00000000#32)))

/-- A comparison of two lane numbers, as words, is that of the numbers. -/
theorem sge_ofNat (c k : ℕ) (hc : c < 1024) (hk : k < 1024) :
    IntOp.cmpi CmpIPredicate.sge (BitVec.ofNat 32 c) (BitVec.ofNat 32 k) = if k ≤ c then 1#1 else 0#1 := by
  have hcI : (BitVec.ofNat 32 c).toInt = (c : ℤ) := by
    rw [BitVec.toInt_eq_toNat_cond, BitVec.toNat_ofNat, Nat.mod_eq_of_lt (by omega), if_pos (by omega)]
  have hkI : (BitVec.ofNat 32 k).toInt = (k : ℤ) := by
    rw [BitVec.toInt_eq_toNat_cond, BitVec.toNat_ofNat, Nat.mod_eq_of_lt (by omega), if_pos (by omega)]
  by_cases h : k ≤ c
  · rw [if_pos h]; simp [IntOp.cmpi, BitVec.sle, hcI, hkI, h]
  · rw [if_neg h]; simp [IntOp.cmpi, BitVec.sle, hcI, hkI, h]

/-- A stage doubles the number of terms that each lane sums. -/
theorem stage_eq (k : ℕ) (hk : k < 1024) (x : FVec Ideal S8x1024 .f32) (g : Fin 8 → ℕ → ℝ)
    (hx : ∀ r (c : Fin 1024), x (ix2 r c) = (lastSum (g r) k c.val : EReal)) (r : Fin 8) (c : Fin 1024) :
    stage (BitVec.ofNat 32 k) x (ix2 r c) = (lastSum (g r) (k + k) c.val : EReal) := by
  have hc := c.isLt
  have e : stage (BitVec.ofNat 32 k) x (ix2 r c) = x (ix2 r c) +
      Scalar.select (IntOp.cmpi CmpIPredicate.sge (BitVec.ofNat 32 c.val) (BitVec.ofNat 32 k))
        (x (ix2 r ⟨(c.val + 1024 - (BitVec.ofNat 32 k).toNat % 1024) % 1024, Nat.mod_lt _ (by norm_num)⟩)) 0 := by
    pointwise [stage]
  rw [e, sge_ofNat _ _ hc hk, ← lastSum_double, EReal.coe_add, hx r c]
  congr 1
  by_cases h : k ≤ c.val
  · rw [if_pos h, if_pos h]
    show x _ = _
    rw [hx]
    congr 2
    rw [BitVec.toNat_ofNat, Nat.mod_eq_of_lt (show k < 2 ^ 32 by omega), Nat.mod_eq_of_lt hk]
    show (c.val + 1024 - k) % 1024 = _
    rw [show c.val + 1024 - k = (c.val - k) + 1024 by omega, Nat.add_mod_right, Nat.mod_eq_of_lt (by omega)]
  · rw [if_neg h, if_neg h]; rfl

/-- The ten stages of the scan. -/
def scan (v : Vec Ideal S8x1024 .f32) : FVec Ideal S8x1024 .f32 :=
  stage 512#32 (stage 256#32 (stage 128#32 (stage 64#32 (stage 32#32 (stage 16#32 (stage 8#32 (stage 4#32 (stage 2#32
    (stage 1#32 (shapeCast S8x1024 v shapeCasts_S8x1024_S8x1024))))))))))

/-- After the ten stages each lane holds the sum of every term up to it. -/
theorem scan_eq (v : Vec Ideal S8x1024 .f32) (g : Fin 8 → ℕ → ℝ) (hv : ∀ r (c : Fin 1024), v (ix2 r c) = (g r c.val : EReal))
    (r : Fin 8) (c : Fin 1024) : scan v (ix2 r c) = ((∑ j ∈ Finset.range (c.val + 1), g r j : ℝ) : EReal) := by
  rw [← lastSum_all (g r) 1024 c.val c.isLt]
  unfold scan
  refine stage_eq 512 (by norm_num) _ g (stage_eq 256 (by norm_num) _ g (stage_eq 128 (by norm_num) _ g
    (stage_eq 64 (by norm_num) _ g (stage_eq 32 (by norm_num) _ g (stage_eq 16 (by norm_num) _ g (stage_eq 8 (by norm_num) _ g
    (stage_eq 4 (by norm_num) _ g (stage_eq 2 (by norm_num) _ g (stage_eq 1 (by norm_num) _ g fun r c => ?_))))))))) r c
  rw [lastSum_one, ← hv r c]
  pointwise

/-- What one trip stores is the carry plus the chunk's scan less the compensation. -/
theorem stored_eq (hi comp : FVec Ideal S8x1 .f32) (v : Vec Ideal S8x1024 .f32) :
    k0_pay7 (F := Ideal) hi comp (k0_pay3 (iota .tc S8x1024 32 [1] iota_S8x1024_d1_w32) v)
      (k0_pay4 (iota .tc S8x1024 32 [1] iota_S8x1024_d1_w32) v)
    = addf (broadcastTo S8x1024 hi broadcasts_S8x1_S8x1024) (subf (scan v) (broadcastTo S8x1024 comp broadcasts_S8x1_S8x1024)) := rfl

/-- WHAT ONE TRIP STORES at a lane: the carry plus the sum of the chunk's terms up to the lane, when the compensation
    is zero. -/
theorem stored_apply (hi comp : FVec Ideal S8x1 .f32) (v : Vec Ideal S8x1024 .f32) (H : Fin 8 → ℝ) (g : Fin 8 → ℕ → ℝ)
    (hh : ∀ r, hi (ix2 r 0) = (H r : EReal)) (hc : ∀ r, comp (ix2 r 0) = (0 : EReal))
    (hv : ∀ r (c : Fin 1024), v (ix2 r c) = (g r c.val : EReal)) (r : Fin 8) (c : Fin 1024) :
    k0_pay7 (F := Ideal) hi comp (k0_pay3 (iota .tc S8x1024 32 [1] iota_S8x1024_d1_w32) v)
      (k0_pay4 (iota .tc S8x1024 32 [1] iota_S8x1024_d1_w32) v) (ix2 r c)
    = ((H r + ∑ j ∈ Finset.range (c.val + 1), g r j : ℝ) : EReal) := by
  rw [stored_eq]
  pointwise
  rw [scan_eq v g hv, hh, hc, sub_zero, EReal.coe_add]

/-- The carry after a trip: the carry before it plus the chunk's sum. -/
theorem carry_apply (hi comp : FVec Ideal S8x1 .f32) (v : Vec Ideal S8x1024 .f32) (H : Fin 8 → ℝ) (g : Fin 8 → ℕ → ℝ)
    (hh : ∀ r, hi (ix2 r 0) = (H r : EReal)) (hc : ∀ r, comp (ix2 r 0) = (0 : EReal))
    (hv : ∀ r (c : Fin 1024), v (ix2 r c) = (g r c.val : EReal)) (r : Fin 8) :
    k0_pay9 (F := Ideal) hi comp (k0_pay2 v) (ix2 r 0) = ((H r + ∑ j ∈ Finset.range 1024, g r j : ℝ) : EReal) := by
  pointwise [k0_pay9, k0_pay8, k0_pay2]
  rw [hh, hc, sub_zero, EReal.coe_add]
  congr 1
  simp only [hv]
  rw [← Fin.sum_univ_eq_sum_range (fun j => g r j)]
  exact (coe_sum Finset.univ fun c : Fin 1024 => g r c.val).symm

/-- The compensation after a trip is zero again. -/
theorem comp_apply (hi comp : FVec Ideal S8x1 .f32) (v : Vec Ideal S8x1024 .f32) (H : Fin 8 → ℝ) (g : Fin 8 → ℕ → ℝ)
    (hh : ∀ r, hi (ix2 r 0) = (H r : EReal)) (hc : ∀ r, comp (ix2 r 0) = (0 : EReal))
    (hv : ∀ r (c : Fin 1024), v (ix2 r c) = (g r c.val : EReal)) (r : Fin 8) :
    k0_pay10 (F := Ideal) hi comp (k0_pay2 v) (ix2 r 0) = (0 : EReal) := by
  have e : k0_pay10 (F := Ideal) hi comp (k0_pay2 v) (ix2 r 0)
      = (k0_pay9 (F := Ideal) hi comp (k0_pay2 v) (ix2 r 0) - hi (ix2 r 0)) - (∑ c : Fin 1024, v (ix2 r c) - comp (ix2 r 0)) := by
    pointwise [k0_pay10, k0_pay9, k0_pay8, k0_pay2]
  rw [e, carry_apply hi comp v H g hh hc hv, hh, hc, sub_zero]
  have : (∑ c : Fin 1024, v (ix2 r c)) = ((∑ j ∈ Finset.range 1024, g r j : ℝ) : EReal) := by
    simp only [hv]
    rw [← Fin.sum_univ_eq_sum_range (fun j => g r j)]
    exact (coe_sum Finset.univ fun c : Fin 1024 => g r c.val).symm
  rw [this, ← EReal.coe_sub, ← EReal.coe_sub]
  norm_num

end Cert.Proof.Scan

end
-- ==== Proof.Scan.Rows.lean ====
module

public import proofs.«01_k».proof.Proof.Scan.Value

@[expose] public section

set_option maxRecDepth 16384

noncomputable section

namespace Cert.Proof.Scan

open Cert.KernelIdeal Cert.KernelIdeal.Gen
open Idealize.ShloMosaic Idealize.ShloMosaic.TcCoe Idealize.SL.Sem

/-- A column of eight reals, as a vector of the kernel. -/
def col (f : Fin 8 → ℝ) : FVec Ideal S8x1 .f32 := fun i => (f (i 0) : EReal)

/-- A column shifted `k` rows down, zeros shifted in. -/
def shiftRow (k : ℕ) (f : Fin 8 → ℝ) : Fin 8 → ℝ := fun r => if k ≤ r.val then f ⟨(r.val + 8 - k) % 8, Nat.mod_lt _ (by norm_num)⟩ else 0

/-- A vector of the kernel with real entries is a column. -/
theorem eq_col (v : FVec Ideal S8x1 .f32) (f : Fin 8 → ℝ) (h : ∀ r, v (ix2 r 0) = (f r : EReal)) : v = col f := by
  funext i
  rw [eq_ix2 i, show i 1 = (0 : Fin 1) from Subsingleton.elim (α := Fin 1) _ _]
  exact h (i 0)

/-- Columns add entry by entry. -/
theorem col_add (f g : Fin 8 → ℝ) : addf (col f) (col g) = col (fun r => f r + g r) := by
  funext i; exact (EReal.coe_add _ _).symm

/-- Columns subtract entry by entry. -/
theorem col_sub (f g : Fin 8 → ℝ) : subf (col f) (col g) = col (fun r => f r - g r) := by
  funext i; exact (EReal.coe_sub _ _).symm

/-- The zero column. -/
theorem col_zero : (broadcast S8x1 (Scalar.ofBits (F := Ideal) .f32 0x00000000#32) : FVec Ideal S8x1 .f32) = col (fun _ => 0) := by
  refine eq_col _ _ fun r => ?_
  pointwise
  rfl

/-- The kernel's shift of a column by `k` rows: a rotation, masked to zero above row `k`. -/
def down (k : BitVec 32) (x : FVec Ideal S8x1 .f32) : FVec Ideal S8x1 .f32 :=
  select (cmpi .sge (iota .tc S8x1 32 [0] iota_S8x1_d0_w32) (broadcast S8x1 k))
    (dynamicRotate 0 k none x rotates_S8x1_d0) (broadcast S8x1 (Scalar.ofBits .f32 0x00000000#32))

/-- The kernel's rounding error of the sum of two columns. -/
def slip (x y : FVec Ideal S8x1 .f32) : FVec Ideal S8x1 .f32 :=
  addf (subf x (subf (addf x y) (subf (addf x y) x))) (subf y (subf (addf x y) x))

/-- Over the reals the rounding error is zero. -/
theorem slip_col (f g : Fin 8 → ℝ) : slip (col f) (col g) = col fun _ => 0 := by
  unfold slip
  rw [col_add, col_sub, col_sub, col_sub, col_sub, col_add]
  congr 1
  funext r; ring

/-- The kernel's shift of a column of reals. -/
theorem down_col (k : ℕ) (hk : k < 8) (f : Fin 8 → ℝ) : down (BitVec.ofNat 32 k) (col f) = col (shiftRow k f) := by
  refine eq_col _ _ fun r => ?_
  have hr := r.isLt
  have e : down (BitVec.ofNat 32 k) (col f) (ix2 r 0)
      = Scalar.select (IntOp.cmpi CmpIPredicate.sge (BitVec.ofNat 32 r.val) (BitVec.ofNat 32 k))
        (f ⟨(r.val + 8 - (BitVec.ofNat 32 k).toNat % 8) % 8, Nat.mod_lt _ (by norm_num)⟩ : EReal) ((0 : ℝ) : EReal) := by
    pointwise [down, col]
    rfl
  rw [e, sge_ofNat _ _ (by omega) (by omega)]
  unfold shiftRow
  have hb : (BitVec.ofNat 32 k).toNat % 8 = k := by
    rw [BitVec.toNat_ofNat, Nat.mod_eq_of_lt (show k < 2 ^ 32 by omega), Nat.mod_eq_of_lt hk]
  simp only [hb]
  by_cases h : k ≤ r.val
  · rw [if_pos h, if_pos h]; rfl
  · rw [if_neg h, if_neg h]; rfl

/-- A column of zeros shifted is a column of zeros. -/
theorem shiftRow_zero (k : ℕ) : shiftRow k (fun _ => 0) = fun _ => 0 := by
  funext r; unfold shiftRow; split_ifs <;> rfl

/-- The sum of the rows before row `r`. -/
def before (T : Fin 8 → ℝ) (r : Fin 8) : ℝ := ∑ q : Fin 8, if q.val < r.val then T q else 0

/-- Three doubling shifts of the shifted column sum the rows before each row. -/
theorem shifts_eq (T : Fin 8 → ℝ) (r : Fin 8) :
    (shiftRow 1 T r + shiftRow 1 (shiftRow 1 T) r) + shiftRow 2 (fun r => shiftRow 1 T r + shiftRow 1 (shiftRow 1 T) r) r
      + shiftRow 4 (fun r => (shiftRow 1 T r + shiftRow 1 (shiftRow 1 T) r)
          + shiftRow 2 (fun r => shiftRow 1 T r + shiftRow 1 (shiftRow 1 T) r) r) r = before T r := by
  unfold before
  rw [Fin.sum_univ_eight]
  fin_cases r <;> simp [shiftRow] <;> ring

/-- The first sum of two shifted columns. -/
theorem pay13_eq (T : Fin 8 → ℝ) :
    k0_pay13 (F := Ideal) (col T) = col (fun r => shiftRow 1 T r + shiftRow 1 (shiftRow 1 T) r) := by
  have e : k0_pay13 (F := Ideal) (col T) = addf (down 1#32 (col T)) (down 1#32 (down 1#32 (col T))) := rfl
  rw [e, down_col 1 (by norm_num), down_col 1 (by norm_num), col_add]

/-- Its rounding error is zero. -/
theorem pay14_eq (T : Fin 8 → ℝ) :
    k0_pay14 (F := Ideal) (col T) (col fun _ => 0) = col (fun _ => 0) := by
  have e : k0_pay14 (F := Ideal) (col T) (col fun _ => 0)
      = addf (down 1#32 (subf (broadcast S8x1 (Scalar.ofBits .f32 0x00000000#32)) (col fun _ => 0)))
          (addf (down 1#32 (down 1#32 (subf (broadcast S8x1 (Scalar.ofBits .f32 0x00000000#32)) (col fun _ => 0))))
            (slip (down 1#32 (col T)) (down 1#32 (down 1#32 (col T))))) := rfl
  rw [e, col_zero, col_sub, down_col 1 (by norm_num), down_col 1 (by norm_num), down_col 1 (by norm_num), down_col 1 (by norm_num),
    slip_col, col_add, col_add]
  congr 1
  funext r
  rw [show (fun _ : Fin 8 => (0 : ℝ) - 0) = fun _ => 0 from funext fun _ => sub_zero 0, shiftRow_zero, shiftRow_zero]
  norm_num

/-- THE ROW CARRIES: the first column holds the sum of the rows before, the second zero, the third the first
    increment. -/
theorem rows_eq (T : Fin 8 → ℝ) (z : EReal) :
    k0_pay1 (F := Ideal) z (iota .tc S8x1 32 [0] iota_S8x1_d0_w32) (k0_pay13 (col T)) (k0_pay14 (col T) (col fun _ => 0)) k0_pay15
      = concatenate S8x128 1 [⟨S8x3, concatenate S8x3 1 [⟨S8x1, col (before T)⟩, ⟨S8x1, col fun _ => 0⟩,
          ⟨S8x1, addf (col fun _ => 0) (broadcast S8x1 z)⟩] concatenates_S8x1_S8x1_S8x1_S8x3_d1⟩,
          ⟨S8x125, broadcast S8x125 (Scalar.sitofp (F := Ideal) .f32 0#32)⟩] concatenates_S8x3_S8x125_S8x128_d1 := by
  rw [pay13_eq, pay14_eq]
  have e : ∀ a b : FVec Ideal S8x1 .f32,
      k0_pay1 (F := Ideal) z (iota .tc S8x1 32 [0] iota_S8x1_d0_w32) a b k0_pay15
      = concatenate S8x128 1 [⟨S8x3, concatenate S8x3 1 [⟨S8x1, addf (addf a (down 2#32 a)) (down 4#32 (addf a (down 2#32 a)))⟩,
          ⟨S8x1, addf (addf b (addf (down 2#32 b) (slip a (down 2#32 a))))
            (addf (down 4#32 (addf b (addf (down 2#32 b) (slip a (down 2#32 a)))))
              (slip (addf a (down 2#32 a)) (down 4#32 (addf a (down 2#32 a)))))⟩,
          ⟨S8x1, addf (broadcast S8x1 (Scalar.ofBits .f32 0x00000000#32)) (broadcast S8x1 z)⟩] concatenates_S8x1_S8x1_S8x1_S8x3_d1⟩,
          ⟨S8x125, broadcast S8x125 (Scalar.sitofp (F := Ideal) .f32 0#32)⟩] concatenates_S8x3_S8x125_S8x128_d1 := fun _ _ => rfl
  rw [e, col_zero, down_col 2 (by norm_num), down_col 2 (by norm_num), slip_col, shiftRow_zero, col_add, col_add, col_add,
    down_col 4 (by norm_num), down_col 4 (by norm_num), slip_col, col_add, col_add, col_add]
  have e1 : (fun r => (shiftRow 1 T r + shiftRow 1 (shiftRow 1 T) r) + shiftRow 2 (fun r => shiftRow 1 T r + shiftRow 1 (shiftRow 1 T) r) r
      + shiftRow 4 (fun r => (shiftRow 1 T r + shiftRow 1 (shiftRow 1 T) r)
          + shiftRow 2 (fun r => shiftRow 1 T r + shiftRow 1 (shiftRow 1 T) r) r) r) = before T := funext (shifts_eq T)
  have e2 : (fun r => (0 : ℝ) + (0 + 0) + (shiftRow 4 (fun _ => (0 : ℝ) + (0 + 0)) r + 0)) = fun _ => 0 := by
    funext r
    rw [show (fun _ : Fin 8 => (0 : ℝ) + (0 + 0)) = fun _ => 0 from funext fun _ => by norm_num, shiftRow_zero]; norm_num
  rw [e1, e2]

/-- The first column of the result holds the sum of the rows above. -/
theorem rows_hi (T : Fin 8 → ℝ) (z : EReal) (r : Fin 8) :
    k0_pay1 (F := Ideal) z (iota .tc S8x1 32 [0] iota_S8x1_d0_w32) (k0_pay13 (col T)) (k0_pay14 (col T) (col fun _ => 0)) k0_pay15
      (ix2 r 0) = (before T r : EReal) := by
  rw [rows_eq]; pointwise; rfl

/-- The second column of the result is zero. -/
theorem rows_lo (T : Fin 8 → ℝ) (z : EReal) (r : Fin 8) :
    k0_pay1 (F := Ideal) z (iota .tc S8x1 32 [0] iota_S8x1_d0_w32) (k0_pay13 (col T)) (k0_pay14 (col T) (col fun _ => 0)) k0_pay15
      (ix2 r 1) = (0 : EReal) := by
  rw [rows_eq]; pointwise; rfl

/-- The third column of the result holds the first increment. -/
theorem rows_first (T : Fin 8 → ℝ) (z : EReal) (r : Fin 8) :
    k0_pay1 (F := Ideal) z (iota .tc S8x1 32 [0] iota_S8x1_d0_w32) (k0_pay13 (col T)) (k0_pay14 (col T) (col fun _ => 0)) k0_pay15
      (ix2 r 2) = z := by
  rw [rows_eq]; pointwise; exact zero_add z

end Cert.Proof.Scan

end
-- ==== Proof.Scan.Result.lean ====
module

public import proofs.«01_k».proof.Proof.Scan.Run
public import proofs.«01_k».proof.Proof.Scan.Value
public import proofs.«01_k».proof.Proof.Scan.Rows
public import Idealize.ShloMosaic.Lib.VecWindow
public import Idealize.ShloMosaic.Lib.WritesUnit

@[expose] public section

set_option maxRecDepth 16384

noncomputable section

namespace Cert.Proof.Scan

open Cert.KernelIdeal Cert.KernelIdeal.Gen
open Idealize.ShloMosaic Idealize.ShloMosaic.TcCoe Idealize.SL.Sem

/-- Trip `k`'s chunk starts at column `1024 k`. -/
theorem off_chunk : ∀ k : Fin k0_t1_loop.trips, k0_off1 k = ![0, 1024 * k.val] := by decide +kernel

/-- The loop makes 56 trips. -/
theorem trips_eq : k0_t1_loop.trips = 56 := by decide +kernel

section
variable (𝒱 : Variants) (c : Dev nD) (bd : Option 𝒱.V)
    (arg0 : Memref sig .tc .vmem S8x57344 .f32) (harg0 : arg0.IsWhole) (arg1 : Memref sig .tc .vmem S8x57344 .f32) (harg1 : arg1.IsWhole)
    (arg2 : Memref sig .tc .vmem S8x128 .f32) (harg2 : arg2.IsWhole) (X0 : BufTy.Contents (Elt Ideal) arg0.view.ty)
    (g : Fin 8 → ℕ → ℝ) (hX : ∀ r (k : Fin 57344), arg0.view.read (Elt Ideal) X0 (ix2 r k) = (g r k.val : EReal))

include hX in
/-- The chunk of trip `k` holds the increments from column `1024 k` on. -/
theorem chunk_apply (k : Fin k0_t1_loop.trips) (r : Fin 8) (j : Fin 1024) :
    chunkAt arg0 X0 k (ix2 r j) = (g r (1024 * k.val + j.val) : EReal) := by
  have hk : k.val < 56 := trips_eq ▸ k.isLt
  have hj := j.isLt
  have e : chunkAt arg0 X0 k (ix2 r j) = arg0.view.read (Elt Ideal) X0 (ix2 r ⟨1024 * k.val + j.val, by omega⟩) := by
    unfold chunkAt
    rw [View.readAt_apply]
    congr 1
    funext a
    refine Fin.ext ?_
    show k0_off1 k a + 1 * (ix2 r j a).val = _
    rw [off_chunk]
    fin_cases a
    · show 0 + 1 * r.val = r.val; omega
    · show 1024 * k.val + 1 * j.val = _; simp
  rw [e, hX]

/-- The sum of a row's first `n` increments. -/
def rowSum (r : Fin 8) (n : ℕ) : ℝ := ∑ j ∈ Finset.range n, g r j

/-- A prefix sum of a row, extended by a further stretch. -/
theorem rowSum_add (r : Fin 8) (n k : ℕ) : rowSum g r n + ∑ j ∈ Finset.range k, g r (n + j) = rowSum g r (n + k) := by
  unfold rowSum; rw [Finset.sum_range_add]

include hX in
/-- The state before trip `n`: the carry is the sum of the first `1024 n` increments, the compensation zero, and the
    stores made hold the running sums. -/
theorem state_values (n : ℕ) (hn : n ≤ 56) :
    (∀ r, (state 𝒱 c bd arg0 harg0 arg1 harg1 arg2 harg2 X0 n).1.1 (ix2 r 0) = (rowSum g r (1024 * n) : EReal))
    ∧ (∀ r, (state 𝒱 c bd arg0 harg0 arg1 harg1 arg2 harg2 X0 n).1.2 (ix2 r 0) = (0 : EReal))
    ∧ (∀ (f : BufTy.Contents (Elt Ideal) arg1.view.ty) (r : Fin 8) (k : Fin 57344), k.val < 1024 * n →
        arg1.view.read (Elt Ideal) (arg1.view.writes (Elt Ideal) f (state 𝒱 c bd arg0 harg0 arg1 harg1 arg2 harg2 X0 n).2) (ix2 r k)
          = (rowSum g r (k.val + 1) : EReal)) := by
  induction n with
  | zero =>
    refine ⟨fun r => ?_, fun r => ?_, fun _ _ k hk => absurd hk (by omega)⟩
    · show k0_pay6 (F := Ideal) (ix2 r 0) = _
      rw [show rowSum g r (1024 * 0) = 0 from by simp [rowSum]]
      pointwise [k0_pay6]; rfl
    · show k0_pay6 (F := Ideal) (ix2 r 0) = _
      pointwise [k0_pay6]
  | succ n ih =>
    obtain ⟨h1, h2, h3⟩ := ih (by omega)
    have hs := state_succ 𝒱 c bd arg0 harg0 arg1 harg1 arg2 harg2 X0 (⟨n, by rw [trips_eq]; omega⟩ : Fin k0_t1_loop.trips)
    have hv := chunk_apply arg0 X0 g hX (⟨n, by rw [trips_eq]; omega⟩ : Fin k0_t1_loop.trips)
    dsimp only at hs hv
    rw [hs]
    refine ⟨fun r => ?_, fun r => ?_, fun f r k hk => ?_⟩
    · dsimp only
      rw [carry_apply _ _ _ (fun r => rowSum g r (1024 * n)) (fun r j => g r (1024 * n + j)) h1 h2 hv r, rowSum_add,
        show 1024 * (n + 1) = 1024 * n + 1024 from by ring]
    · dsimp only
      exact comp_apply _ _ _ (fun r => rowSum g r (1024 * n)) (fun r j => g r (1024 * n + j)) h1 h2 hv r
    · dsimp only
      by_cases hlt : k.val < 1024 * n
      · refine (View.read_writes_cons_unit_of_not_mem arg1.view f _ _ _ (ix2 r k)
          (off_chunk ⟨n, by rw [trips_eq]; omega⟩) 1 (Or.inl ?_)).trans (h3 f r k hlt)
        exact hlt
      · refine (View.read_writes_cons_unit_of_mem arg1.view f _ _ _ (ix2 r k)
          (ix2 r (⟨k.val - 1024 * n, by omega⟩ : Fin 1024) : S8x1024.Idx) (off_chunk ⟨n, by rw [trips_eq]; omega⟩) (by
            intro a; fin_cases a
            · show r.val = 0 + r.val; omega
            · show k.val = 1024 * n + (k.val - 1024 * n); omega)).trans ?_
        rw [stored_apply _ _ _ (fun r => rowSum g r (1024 * n)) (fun r j => g r (1024 * n + j)) h1 h2 hv r, rowSum_add,
          show 1024 * n + (k.val - 1024 * n + 1) = k.val + 1 from by omega]

include hX in
/-- THE RUNNING SUMS after the scan: each lane holds the sum of its row's increments up to it. -/
theorem sums_read (f : BufTy.Contents (Elt Ideal) arg1.view.ty) (r : Fin 8) (k : Fin 57344) :
    arg1.view.read (Elt Ideal) (arg1.view.writes (Elt Ideal) f (scanRun 𝒱 c bd arg0 harg0 arg1 harg1 arg2 harg2 X0).1) (ix2 r k)
      = (rowSum g r (k.val + 1) : EReal) := by
  rw [scanRun_sums, trips_eq]
  exact (state_values 𝒱 c bd arg0 harg0 arg1 harg1 arg2 harg2 X0 g hX 56 (le_refl _)).2.2 f r k (by have := k.isLt; omega)

/-- What the row carries hold after the scan. -/
def carries : FVec Ideal S8x128 .f32 :=
  k0_pay1 (F := Ideal) (g 0 0 : EReal) (iota .tc S8x1 32 [0] iota_S8x1_d0_w32) (k0_pay13 (col fun r => rowSum g r 57344))
    (k0_pay14 (col fun r => rowSum g r 57344) (col fun _ => 0)) k0_pay15

include hX in
/-- THE ROW CARRIES after the scan. -/
theorem rows_read (f : BufTy.Contents (Elt Ideal) arg2.view.ty) :
    arg2.view.read (Elt Ideal) (arg2.view.writes (Elt Ideal) f (scanRun 𝒱 c bd arg0 harg0 arg1 harg1 arg2 harg2 X0).2.1)
      = carries g := by
  rw [scanRun_rows]
  unfold rowPiece
  rw [View.read_writes_full]
  obtain ⟨h1, h2, -⟩ := state_values 𝒱 c bd arg0 harg0 arg1 harg1 arg2 harg2 X0 g hX 56 (le_refl _)
  rw [trips_eq, eq_col _ _ h1, eq_col _ (fun _ => 0) (fun r => (h2 r).trans rfl)]
  unfold carries
  congr 1
  have e : k0_pay5 (F := Ideal) (arg0.view.readAt (Elt Ideal) (Rect.unit (s := S8x57344) ![0, 0] S1x1.size inb_S8x57344_S1x1_0_0).toLoadRect X0)
      = arg0.view.read (Elt Ideal) X0 (ix2 0 0) := by
    unfold k0_pay5
    show View.readAt _ _ _ _ _ = _
    rw [View.readAt_apply]
    congr 1
    funext a
    fin_cases a <;> rfl
  rw [e, hX]; rfl

end

end Cert.Proof.Scan

end
-- ==== Proof.Scan.Region.lean ====
module

public import proofs.«01_k».proof.Proof.Scan.Result
public import proofs.«01_k».proof.Proof.Gen.KernelIdeal.Launch
public import Idealize.ShloMosaic.Lib.Pipeline.RegionArraysS
public import Idealize.ShloMosaic.Lib.Pipeline.ValueKit

@[expose] public section

set_option maxRecDepth 16384

noncomputable section

namespace Cert.Proof.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄G" => MT nD τ sig Unit (Elt Ideal) ℕ (UR sig nD τ) ℕ

/-- The scan over its three buffers, each owned at what it holds. -/
theorem scan_owns (c : Dev nD) (E : Set ℕ)
    (arg0 : Memref sig .tc .vmem S8x57344 .f32) (harg0 : arg0.IsWhole) (arg1 : Memref sig .tc .vmem S8x57344 .f32) (harg1 : arg1.IsWhole)
    (arg2 : Memref sig .tc .vmem S8x128 .f32) (harg2 : arg2.IsWhole) (g : Fin 8 → ℕ → ℝ)
    (Y1 : S8x57344.Idx → Elt Ideal .f32) (Y2 : S8x128.Idx → Elt Ideal .f32) :
    (iprop(owns (c : Thread nD τ) arg0 fullShare (fun i : S8x57344.Idx => (g (i 0) (i 1).val : EReal))
        ∗ owns (c : Thread nD τ) arg1 fullShare Y1 ∗ owns (c : Thread nD τ) arg2 fullShare Y2) : sProp 𝕄G)
      ⊢ wp Idealize.ShloMosaic.frame (wpE (defs₀ (F := Ideal)) Variants.none c none) E
          (cc0__cumsum_kernel arg0 harg0 arg1 harg1 arg2 harg2) (fun _ =>
            iprop(owns (c : Thread nD τ) arg0 fullShare (fun i : S8x57344.Idx => (g (i 0) (i 1).val : EReal))
              ∗ owns (c : Thread nD τ) arg1 fullShare (fun i : S8x57344.Idx => (rowSum g (i 0) ((i 1).val + 1) : EReal))
              ∗ owns (c : Thread nD τ) arg2 fullShare (carries g))) := by
  unfold owns
  iintro ⟨⟨%f0, %hf0, H0⟩, ⟨%f1, %hf1, H1⟩, ⟨%f2, %hf2, H2⟩⟩
  have hX : ∀ r (k : Fin 57344), arg0.view.read (Elt Ideal) f0 (ix2 r k) = (g r k.val : EReal) := fun r k => by rw [hf0]; rfl
  iapply wp_wand_r
  isplitl [H0 H1 H2]
  · iapply (scanRun Variants.none c none arg0 harg0 arg1 harg1 arg2 harg2 f0).2.2 E f1 f2
    isplitl [H0]; · iexact H0
    isplitl [H1]; · iexact H1
    iexact H2
  iintro %_ ⟨H0, H1, H2⟩
  isplitl [H0]
  · iexists f0; isplitr; · ipureintro; exact hf0
    iexact H0
  isplitl [H1]
  · iexists _; isplitr; rotate_left; · iexact H1
    ipureintro
    funext i; rw [eq_ix2 i]
    exact sums_read Variants.none c none arg0 harg0 arg1 harg1 arg2 harg2 f0 g hX f1 (i 0) (i 1)
  · iexists _; isplitr; rotate_left; · iexact H2
    ipureintro
    exact rows_read Variants.none c none arg0 harg0 arg1 harg1 arg2 harg2 f0 g hX f2

variable (V : Dev nD → Valuation τ sig (Elt Ideal)) (g : Dev nD → Fin 8 → ℕ → ℝ)

/-- The scan's proof data: the arrays at entry, and what each buffer holds after the body. -/
def dat0 (c : Dev nD) : Dat τ (Elt Ideal) Unit ℕ (UR sig nD τ) ℕ cfg0 c where
  A w := V c (Proc.devRef .tc (Pipeline.arrRef spec0 w))
  after w _ := match w with
    | ⟨0, _⟩ => fun i => (g c (i 0) (i 1).val : EReal)
    | ⟨1, _⟩ => fun i => (rowSum (g c) (i 0) ((i 1).val + 1) : EReal)
    | ⟨2, _⟩ => carries (g c)
  Φ _ := Pipeline.scopedRest spec0 c
  q _ := fullShare
  owed _ := 0

/-- The one point of the first call sees the whole array of increments. -/
theorem idx0 : ∀ t : Fin grid0.N, win0_0.index t = ![0, 0] := by decide +kernel

/-- The increments' buffer arrives holding the array. -/
theorem before_in (hX : ∀ c r (k : Fin 57344), V c main_call0_v22 (ix2 r k) = (g c r k.val : EReal)) (c : Dev nD) (t : Fin cfg0.N) (d) :
    (dat0 V g c).before (0 : Fin 3) t d = fun i : S8x57344.Idx => (g c (i 0) (i 1).val : EReal) := by
  unfold Dat.before
  rw [if_pos (fetch0_0 t)]
  funext i
  have hm : win0_0.moved (grid0.coords t) i = true :=
    (win0_0.moved_iff _ i).mpr fun a => (i a).isLt
  refine Eq.trans ?_ (hX c (i 0) (i 1))
  unfold Dat.fetched Window.fill
  rw [dif_pos hm]
  show V c main_call0_v22 _ = V c main_call0_v22 _
  congr 1
  blk_ext [idx0 t]

/-- THE SCAN'S BODY keeps the proof data's word. -/
theorem body0 (hX : ∀ c r (k : Fin 57344), V c main_call0_v22 (ix2 r k) = (g c r k.val : EReal)) (c : Dev nD) :
    BodyObligation (dat0 V g c) (defs₀ (F := Ideal)) Variants.none () Set.univ := fun t => by
  rw [bigSep_W0, bigSep_W0]
  simp only
  rw [show (dat0 V g c).Φ t.succ = (dat0 V g c).Φ t.castSucc from rfl,
    show (dat0 V g c).owesAt () t.succ = (dat0 V g c).owesAt () t.castSucc from rfl]
  iintro ⟨HΦ, Ho, ⟨%d0, H0⟩, ⟨%d1, H1⟩, ⟨%d2, H2⟩⟩
  rw [before_in V g hX c t d0]
  iapply wp_wand_r
  isplitl [H0 H1 H2]
  · iapply (scan_owns c Set.univ (st0_0 t) (hstage0_0 0) (st0_1 t) (hstage0_1 0) (st0_2 t) (hstage0_2 0) (g c) _ _)
    isplitl [H0]; · iexact H0
    isplitl [H1]; · iexact H1
    iexact H2
  iintro %_ ⟨H0, H1, H2⟩
  isplitl [HΦ]; · iexact HΦ
  isplitl [Ho]; · iexact Ho
  isplitl [H0]; · iexact H0
  isplitl [H1]; · iexact H1
  iexact H2

/-- The running sums' array after the region. -/
theorem sums_array (c : Dev nD) :
    (dat0 V g c).arrAt (1 : Fin 3) cfg0.N = fun i : S8x57344.Idx => (rowSum (g c) (i 0) ((i 1).val + 1) : EReal) := by
  refine (dat0 V g c).arrAt_eq_of_after_last 1 t0_0 (by decide +kernel) _ fun j => ?_
  blk_simp
  rfl

/-- The row carries' array after the region. -/
theorem carries_array (c : Dev nD) : (dat0 V g c).arrAt (2 : Fin 3) cfg0.N = carries (g c) := by
  refine (dat0 V g c).arrAt_eq_of_after_last 2 t0_0 (by decide +kernel) _ fun j => ?_
  blk_simp
  rfl

end Cert.Proof.Scan

end
-- ==== Proof.Mix.Model.lean ====
module

public import proofs.«01_k».proof.Proof.Gen.KernelIdeal.Skeleton
public import proofs.«01_k».proof.Proof.Gen.KernelIdeal.Points
public import Idealize.ShloMosaic.Lib.Exec
public import Idealize.ShloMosaic.Lib.Tactic
public import Idealize.ShloMosaic.Lib.Pipeline.Kit

@[expose] public section

noncomputable section

namespace Cert.Proof.Mix

open Cert.KernelIdeal Cert.KernelIdeal.Gen
open Idealize.ShloMosaic Idealize.ShloMosaic.TcCoe Idealize.SL.Sem

variable {F : FTy → Type} [FloatOps F]

/-- The integer index at which one sub-block of 1024 samples starts: the floor of the wrapped table position of
    its first sample. -/
def baseWord (e l z : Elt F .f32) (x0 : Vec F S1x1x1 .f32) : BitVec 32 :=
  Scalar.fptosi 32 (k1_pay5 (F := F) e l z x0)

/-- That integer divided by 16, rounded down: the number of the sixteen-row tile in which the window starts. -/
def tileWord (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt (16#32 : BitVec 32) 0#32)) (Scalar.extui (Scalar.cmpi .slt (16#32 : BitVec 32) 0#32))))
      (Scalar.cmpi .ne (Scalar.remsi w 16#32) (0#32 : BitVec 32)))
    (Scalar.subi (Scalar.divsi w 16#32) 1#32) (Scalar.divsi w 16#32)

/-- What one sub-block stores, of the row's carry (`e`, `l`), the first increment `z`, the sub-block's partial sums
    `x` and the first of them `x0`, the 128 table rows `W` of its window, its attention columns `A` and its
    amplitudes `amp`. -/
def subOut (e l z : Elt F .f32) (x : Vec F S1x1x1024 .f32) (x0 : Vec F S1x1x1 .f32) (W : Vec F S128x192 .bf16)
    (A : Vec F S64x1024 .f32) (amp : Vec F S1x1024 .f32) : FVec F S1x1024 .f32 :=
  k1_pay6 (F := F) (iota .tc S128x1024 32 [0] iota_S128x1024_d0_w32)
    (k1_pay4 (k1_pay1 e l z x) (k1_pay2 e l z x) (k1_pay3 e l z x)) (tileWord (baseWord e l z x0)) 16#32 W A amp

/-- Where sub-block `j` starts in its block of 8192, within the three-axis window of partial sums. -/
theorem inb_raw (j : Fin 8) (n : ℕ) (hn : n ≤ 1024) :
    ∀ a, (![0, 0, 1024 * j.val] : Fin 3 → ℕ) a + (![1, 1, n] : Fin 3 → ℕ) a ≤ S1x1x8192.size a := by
  intro a; have := j.isLt; fin_cases a <;> simp <;> omega

/-- Where sub-block `j` starts in a two-axis window of 8192 columns. -/
theorem inb_col (r : ℕ) (j : Fin 8) :
    ∀ a, (![0, 1024 * j.val] : Fin 2 → ℕ) a + (![r, 1024] : Fin 2 → ℕ) a ≤ (![r, 8192] : Fin 2 → ℕ) a := by
  intro a; have := j.isLt; fin_cases a <;> simp <;> omega

section
variable (i : grid1.Coords)
    (arg1 : Memref sig .tc .smem S8x4 .f32) (arg2 : Memref sig .tc .vmem S1x1x8192 .f32)
    (X1 : BufTy.Contents (Elt F) arg1.view.ty) (X2 : BufTy.Contents (Elt F) arg2.view.ty)

/-- The carry of the block's row, its high part. -/
def carryHi : Elt F .f32 :=
  arg1.view.readAt (Elt F) (Rect.unit (s := S8x4) (k1_off1 i) S1x1.size (k1_off1_inb i)).toLoadRect X1
    (Shape.Idx.first (numel1_S1x1.symm ▸ Nat.one_pos))

/-- The carry of the block's row, its low part. -/
def carryLo : Elt F .f32 :=
  arg1.view.readAt (Elt F) (Rect.unit (s := S8x4) (k1_off2 i) S1x1.size (k1_off2_inb i)).toLoadRect X1
    (Shape.Idx.first (numel1_S1x1.symm ▸ Nat.one_pos))

/-- The first increment. -/
def firstInc : Elt F .f32 :=
  arg1.view.readAt (Elt F) (Rect.unit (s := S8x4) ![0, 2] S1x1.size inb_S8x4_S1x1_0_2).toLoadRect X1
    (Shape.Idx.first (numel1_S1x1.symm ▸ Nat.one_pos))

/-- Sub-block `j`'s partial sums. -/
def rawAt (j : Fin 8) : Vec F S1x1x1024 .f32 :=
  arg2.view.readAt (Elt F) (Rect.unit (s := S1x1x8192) ![0, 0, 1024 * j.val] S1x1x1024.size (inb_raw j 1024 (le_refl _))).toLoadRect X2

/-- Sub-block `j`'s first partial sum. -/
def headAt (j : Fin 8) : Vec F S1x1x1 .f32 :=
  arg2.view.readAt (Elt F) (Rect.unit (s := S1x1x8192) ![0, 0, 1024 * j.val] S1x1x1.size (inb_raw j 1 (by decide))).toLoadRect X2

/-- Sub-block `j`'s integer index. -/
def baseAt (j : Fin 8) : BitVec 32 :=
  baseWord (carryHi i arg1 X1) (carryLo i arg1 X1) (firstInc arg1 X1) (headAt arg2 X2 j)

variable (arg3 : Memref sig .tc .vmem S1x8192 .f32) (arg4 : Memref sig .tc .vmem S64x8192 .f32)
    (arg5 : Memref sig .tc .vmem S4240x192 .bf16)
    (X3 : BufTy.Contents (Elt F) arg3.view.ty) (X4 : BufTy.Contents (Elt F) arg4.view.ty) (X5 : BufTy.Contents (Elt F) arg5.view.ty)

/-- Sub-block `j`'s window of the table, when its start leaves it inside. -/
def windowAt (j : Fin 8) (h : k1_chk1 (baseAt i arg1 arg2 X1 X2 j)) : Vec F S128x192 .bf16 :=
  arg5.view.readAt (Elt F) (Rect.unit (s := S4240x192) (k1_off3 (baseAt i arg1 arg2 X1 X2 j)) S128x192.size h).toLoadRect X5

/-- Sub-block `j`'s attention columns. -/
def attAt (j : Fin 8) : Vec F S64x1024 .f32 :=
  arg4.view.readAt (Elt F) (Rect.unit (s := S64x8192) ![0, 1024 * j.val] S64x1024.size (inb_col 64 j)).toLoadRect X4

/-- Sub-block `j`'s amplitudes. -/
def ampAt (j : Fin 8) : Vec F S1x1024 .f32 :=
  arg3.view.readAt (Elt F) (Rect.unit (s := S1x8192) ![0, 1024 * j.val] S1x1024.size (inb_col 1 j)).toLoadRect X3

/-- What sub-block `j` stores, of what the block's windows hold. -/
def outAt (j : Fin 8) (h : k1_chk1 (baseAt i arg1 arg2 X1 X2 j)) : FVec F S1x1024 .f32 :=
  subOut (carryHi i arg1 X1) (carryLo i arg1 X1) (firstInc arg1 X1) (rawAt arg2 X2 j) (headAt arg2 X2 j)
    (windowAt i arg1 arg2 X1 X2 arg5 X5 j h) (attAt arg4 X4 j) (ampAt arg3 X3 j)

/-- Sub-block `j`'s store: its place in the block and its values. -/
def pieceAt (j : Fin 8) (h : k1_chk1 (baseAt i arg1 arg2 X1 X2 j)) : View.Piece (Elt F) S1x8192 .f32 :=
  ⟨Rect.unit (s := S1x8192) ![0, 1024 * j.val] S1x1024.size (inb_col 1 j), outAt i arg1 arg2 X1 X2 arg3 arg4 arg5 X3 X4 X5 j h⟩

end

end Cert.Proof.Mix

end
-- ==== Proof.Math.Wrap.lean ====
module

public import Idealize.ShloMosaic.Lib.Pointwise

@[expose] public section

noncomputable section

namespace Cert.Proof

open Idealize.ShloMosaic

/-! The arithmetic of a wrapped table position: a real number taken modulo the table's length 4097. -/

/-- The word of the table's length stands for 4097. -/
theorem word_len : Ideal.ofBits .f32 1166018560#32 = ((4097 : ℝ) : EReal) := by
  simp [Ideal.ofBits, Ideal.ieee]; rw [← EReal.coe_mul]; norm_num

/-- The reciprocal of the table's length as the kernel rounds it. -/
def recip : ℝ := 16773121 / 2 ^ 36

/-- The word of the reciprocal stands for that rational number. -/
theorem word_recip : Ideal.ofBits .f32 964685825#32 = (recip : EReal) := by
  simp [Ideal.ofBits, Ideal.ieee, recip]; rw [← EReal.coe_mul]; norm_num

/-- The word of the wrap test's threshold stands for -1024. -/
theorem word_threshold : Ideal.ofBits .f32 3296722944#32 = ((-1024 : ℝ) : EReal) := by
  simp [Ideal.ofBits, Ideal.ieee]; rw [← EReal.coe_mul]; norm_num

/-- The word a maximum starts from stands for the least extended real. -/
theorem word_least : Ideal.ofBits .f32 4286578688#32 = (⊥ : EReal) := by
  simp [Ideal.ofBits, Ideal.ieee]

/-- The word of the sampling rate stands for 44100. -/
theorem word_rate : Ideal.ofBits .f32 0x472C4400#32 = ((44100 : ℝ) : EReal) := by
  simp [Ideal.ofBits, Ideal.ieee]; rw [← EReal.coe_mul]; norm_num

/-- A real number modulo 4097, in `[0, 4097)`. -/
def modLen (x : ℝ) : ℝ := x - 4097 * (⌊x / 4097⌋ : ℝ)

/-- A wrapped position is not negative. -/
theorem modLen_nonneg (x : ℝ) : 0 ≤ modLen x := by
  have := Int.floor_le (x / 4097); unfold modLen; linarith

/-- A wrapped position lies below the length of the table. -/
theorem modLen_lt (x : ℝ) : modLen x < 4097 := by
  have := Int.lt_floor_add_one (x / 4097); unfold modLen; linarith

/-- A number in `[0, 4097)` that differs from `x` by a multiple of 4097 is `x` modulo 4097. -/
theorem modLen_unique (x y : ℝ) (k : ℤ) (h : y = x - 4097 * (k : ℝ)) (h0 : 0 ≤ y) (h1 : y < 4097) : y = modLen x := by
  have : ⌊x / 4097⌋ = k := by
    rw [Int.floor_eq_iff]; constructor <;> linarith
  rw [modLen, this, h]

/-- The kernel's wrapping: subtract the length as often as the rounded reciprocal says, then correct by one length
    either way. -/
def wrap (x : ℝ) : ℝ :=
  let m := x - (⌊x * recip⌋ : ℝ) * 4097
  let m' := if m < 0 then m + 4097 else m
  if 4097 ≤ m' then m' - 4097 else m'

/-- On the positions that occur, the kernel's wrapping is the remainder modulo 4097. -/
theorem wrap_eq (x : ℝ) (h0 : 0 ≤ x) (h1 : x ≤ 45000) : wrap x = modLen x := by
  have hq1 := Int.floor_le (x * recip)
  have hq2 := Int.lt_floor_add_one (x * recip)
  have hr1 : x * recip ≤ x / 4097 + 1 / 4097 := by unfold recip; linarith
  have hr2 : x / 4097 - 1 / 4097 ≤ x * recip := by unfold recip; linarith
  unfold wrap
  set q := ⌊x * recip⌋ with hq
  have e1 : -4097 ≤ x - (q : ℝ) * 4097 := by linarith
  have e2 : x - (q : ℝ) * 4097 < 2 * 4097 := by linarith
  dsimp only
  split_ifs with ha hb hb
  · linarith
  · refine modLen_unique x _ (q - 1) ?_ ?_ ?_ <;> (try push_cast) <;> linarith
  · refine modLen_unique x _ (q + 1) ?_ ?_ ?_ <;> (try push_cast) <;> linarith
  · refine modLen_unique x _ q ?_ ?_ ?_ <;> (try push_cast) <;> linarith

/-- A comparison of two reals as extended reals is the comparison of the reals. -/
theorem wrap_ereal (x : ℝ) :
    (if ((4097 : ℝ) : EReal) ≤
        (if (x : EReal) - Ideal.liftRound Int.floor ((x : EReal) * (recip : EReal)) * ((4097 : ℝ) : EReal) < 0
          then (x : EReal) - Ideal.liftRound Int.floor ((x : EReal) * (recip : EReal)) * ((4097 : ℝ) : EReal) + ((4097 : ℝ) : EReal)
          else (x : EReal) - Ideal.liftRound Int.floor ((x : EReal) * (recip : EReal)) * ((4097 : ℝ) : EReal))
      then (if (x : EReal) - Ideal.liftRound Int.floor ((x : EReal) * (recip : EReal)) * ((4097 : ℝ) : EReal) < 0
          then (x : EReal) - Ideal.liftRound Int.floor ((x : EReal) * (recip : EReal)) * ((4097 : ℝ) : EReal) + ((4097 : ℝ) : EReal)
          else (x : EReal) - Ideal.liftRound Int.floor ((x : EReal) * (recip : EReal)) * ((4097 : ℝ) : EReal))
        - ((4097 : ℝ) : EReal)
      else (if (x : EReal) - Ideal.liftRound Int.floor ((x : EReal) * (recip : EReal)) * ((4097 : ℝ) : EReal) < 0
          then (x : EReal) - Ideal.liftRound Int.floor ((x : EReal) * (recip : EReal)) * ((4097 : ℝ) : EReal) + ((4097 : ℝ) : EReal)
          else (x : EReal) - Ideal.liftRound Int.floor ((x : EReal) * (recip : EReal)) * ((4097 : ℝ) : EReal)))
      = (wrap x : EReal) := by
  have e : (x : EReal) - Ideal.liftRound Int.floor ((x : EReal) * (recip : EReal)) * ((4097 : ℝ) : EReal)
      = ((x - (⌊x * recip⌋ : ℝ) * 4097 : ℝ) : EReal) := by
    rw [← EReal.coe_mul, Ideal.liftRound_coe, ← EReal.coe_mul, ← EReal.coe_sub]
  rw [e]
  have e' : (if ((x - (⌊x * recip⌋ : ℝ) * 4097 : ℝ) : EReal) < 0
      then ((x - (⌊x * recip⌋ : ℝ) * 4097 : ℝ) : EReal) + ((4097 : ℝ) : EReal) else ((x - (⌊x * recip⌋ : ℝ) * 4097 : ℝ) : EReal))
      = ((if x - (⌊x * recip⌋ : ℝ) * 4097 < 0 then x - (⌊x * recip⌋ : ℝ) * 4097 + 4097 else x - (⌊x * recip⌋ : ℝ) * 4097 : ℝ) : EReal) := by
    by_cases h : x - (⌊x * recip⌋ : ℝ) * 4097 < 0
    · rw [if_pos h, if_pos (by exact_mod_cast h), ← EReal.coe_add]
    · rw [if_neg h, if_neg (by exact_mod_cast h)]
  rw [e']
  unfold wrap
  dsimp only
  generalize (if x - (⌊x * recip⌋ : ℝ) * 4097 < 0 then x - (⌊x * recip⌋ : ℝ) * 4097 + 4097 else x - (⌊x * recip⌋ : ℝ) * 4097 : ℝ) = m
  by_cases h : 4097 ≤ m
  · rw [if_pos h, if_pos (by exact_mod_cast h), ← EReal.coe_sub]
  · rw [if_neg h, if_neg (by exact_mod_cast h)]

/-- The place of a sample in its window, as the kernel computes it: the wrapped position minus the window's start,
    one length added when that is far below zero, and never below zero. -/
def place (p : ℝ) (sa : ℤ) : ℝ :=
  max (if p - (sa : ℝ) < -1024 then p - (sa : ℝ) + 4097 else p - (sa : ℝ)) 0

/-- Within a sub-block the positions advance by less than 96, so the place of every sample in the window that starts
    at the tile of the first sample is that of its own wrapped position, perhaps one table length further on, and lies
    within the window's first 112 rows. -/
theorem place_eq (x0 x : ℝ) (h : x0 ≤ x) (h' : x ≤ x0 + 96) :
    ∃ k : ℕ, place (modLen x) (⌊modLen x0⌋ / 16 * 16) = modLen x + 4097 * k - ((⌊modLen x0⌋ / 16 * 16 : ℤ) : ℝ)
      ∧ 0 ≤ place (modLen x) (⌊modLen x0⌋ / 16 * 16) ∧ place (modLen x) (⌊modLen x0⌋ / 16 * 16) < 112 := by
  have a0 := modLen_nonneg x0
  have a1 := modLen_lt x0
  have b0 := modLen_nonneg x
  have b1 := modLen_lt x
  have f1 := Int.floor_le (modLen x0)
  have f2 := Int.lt_floor_add_one (modLen x0)
  have s1 : ((⌊modLen x0⌋ / 16 * 16 : ℤ) : ℝ) ≤ (⌊modLen x0⌋ : ℝ) := by exact_mod_cast (by omega : ⌊modLen x0⌋ / 16 * 16 ≤ ⌊modLen x0⌋)
  have s2 : (⌊modLen x0⌋ : ℝ) ≤ ((⌊modLen x0⌋ / 16 * 16 : ℤ) : ℝ) + 15 := by
    exact_mod_cast (by omega : ⌊modLen x0⌋ ≤ ⌊modLen x0⌋ / 16 * 16 + 15)
  generalize hs : ((⌊modLen x0⌋ / 16 * 16 : ℤ) : ℝ) = s at s1 s2
  unfold place
  rw [hs]
  by_cases hc : modLen x0 + (x - x0) < 4097
  · have e : modLen x0 + (x - x0) = modLen x :=
      modLen_unique x _ ⌊x0 / 4097⌋ (by unfold modLen; ring) (by linarith) hc
    refine ⟨0, ?_⟩
    rw [if_neg (by linarith), max_eq_left (by linarith)]
    push_cast
    exact ⟨by ring, by linarith, by linarith⟩
  · have e : modLen x0 + (x - x0) - 4097 = modLen x :=
      modLen_unique x _ (⌊x0 / 4097⌋ + 1) (by push_cast; unfold modLen; ring) (by linarith) (by linarith)
    refine ⟨1, ?_⟩
    rw [if_pos (by linarith), max_eq_left (by linarith)]
    push_cast
    exact ⟨by ring, by linarith, by linarith⟩

/-- The place as the kernel's extended reals compute it. -/
theorem place_ereal (p : ℝ) (sa : ℤ) :
    max (if (p : EReal) - ((sa : ℝ) : EReal) < ((-1024 : ℝ) : EReal) then (p : EReal) - ((sa : ℝ) : EReal) + ((4097 : ℝ) : EReal)
        else (p : EReal) - ((sa : ℝ) : EReal)) 0 = (place p sa : EReal) := by
  unfold place
  rw [← EReal.coe_sub, ← EReal.coe_add]
  have : ((0 : ℝ) : EReal) = 0 := rfl
  by_cases h : p - (sa : ℝ) < -1024
  · rw [if_pos h, if_pos (by exact_mod_cast h), ← this]; exact (EReal.coe_strictMono.monotone.map_max).symm
  · rw [if_neg h, if_neg (by exact_mod_cast h), ← this]; exact (EReal.coe_strictMono.monotone.map_max).symm

end Cert.Proof

end
-- ==== Proof.Math.Words.lean ====
module

public import proofs.«01_k».proof.Proof.Mix.Model
public import proofs.«01_k».proof.Proof.Math.Wrap
public import Idealize.ShloMosaic.Lib.Pointwise

@[expose] public section

set_option maxRecDepth 16384

noncomputable section

namespace Cert.Proof.Mix

open Cert.KernelIdeal Cert.KernelIdeal.Gen
open Idealize.ShloMosaic Idealize.ShloMosaic.TcCoe Idealize.SL.Sem

/-- A real number in range, rounded to a word: the word of its integer part. -/
theorem fptosi_floor (y : ℝ) (h0 : 0 ≤ y) (h1 : y < 2 ^ 20) :
    FloatOps.fptosi (F := Ideal) (φ := .f32) 32 (((⌊y⌋ : ℝ) : EReal)) = BitVec.ofNat 32 ⌊y⌋.toNat := by
  have a : 0 ≤ ⌊y⌋ := Int.floor_nonneg.mpr h0
  have b : ⌊y⌋ < 2 ^ 20 := Int.floor_lt.mpr (by exact_mod_cast h1)
  show BitVec.ofInt 32 (Ideal.toIntClamped _ _ (((⌊y⌋ : ℝ) : EReal))) = _
  rw [Ideal.toIntClamped_coe, if_pos (by exact_mod_cast a), Int.floor_intCast]
  rw [min_eq_right (by norm_num; omega), max_eq_right (by norm_num; omega)]
  obtain ⟨n, hn⟩ := Int.eq_ofNat_of_zero_le a
  rw [hn]; simp

/-- The tile of an index of the table: the index divided by 16. -/
theorem tileWord_eq : ∀ n : Fin 4097, tileWord (BitVec.ofNat 32 n.val) = BitVec.ofNat 32 (n.val / 16) := by
  decide +kernel

/-- Where the window starts, as an integer. -/
theorem tile_toInt : ∀ n : Fin 4097, (Scalar.muli (BitVec.ofNat 32 (n.val / 16)) 16#32).toInt = ((n.val / 16 * 16 : ℕ) : ℤ) := by
  decide +kernel

/-- Where the window starts, as a row of the table. -/
theorem off_eq (n : Fin 4097) : k1_off3 (BitVec.ofNat 32 n.val) = ![n.val / 16 * 16, 0] := by
  have h : k1_off3 (BitVec.ofNat 32 n.val) = ![(Scalar.muli (tileWord (BitVec.ofNat 32 n.val)) 16#32).toNat, 0] := rfl
  rw [h, tileWord_eq]
  have : ∀ n : Fin 4097, (Scalar.muli (BitVec.ofNat 32 (n.val / 16)) 16#32).toNat = n.val / 16 * 16 := by decide +kernel
  rw [this]

/-- A window that starts at the tile of an index of the table lies inside it. -/
theorem chk_of_lt (n : Fin 4097) : k1_chk1 (BitVec.ofNat 32 n.val) := by
  unfold k1_chk1
  rw [off_eq]
  intro a; have := n.isLt; fin_cases a <;> simp <;> omega

/-- The one-hot column of a row `m < 128`: one in row `m`, zero elsewhere. -/
theorem hot_eq (m : ℕ) (hm : m < 128) (k : Fin 128) :
    FloatOps.sitofp (F := Ideal) .f32 (BitVec.setWidth 32 (IntOp.cmpi CmpIPredicate.eq (BitVec.ofNat 32 k.val) (BitVec.ofNat 32 m)))
      = if k.val = m then (1 : EReal) else 0 := by
  have hd : (BitVec.ofNat 32 k.val == BitVec.ofNat 32 m) = decide (k.val = m) := by
    rw [Bool.eq_iff_iff]; simp only [beq_iff_eq, decide_eq_true_eq]
    constructor
    · intro h
      have := congrArg BitVec.toNat h
      have hk := k.isLt
      simpa [BitVec.toNat_ofNat, Nat.mod_eq_of_lt (show k.val < 4294967296 by omega), Nat.mod_eq_of_lt (show m < 4294967296 by omega)] using this
    · intro h; rw [h]
  by_cases h : k.val = m
  · rw [if_pos h, h]
    have : IntOp.cmpi CmpIPredicate.eq (BitVec.ofNat 32 m) (BitVec.ofNat 32 m) = 1#1 := by simp [IntOp.cmpi]
    rw [this]
    show (((BitVec.setWidth 32 1#1).toInt : ℝ) : EReal) = 1
    norm_num
  · rw [if_neg h]
    have : IntOp.cmpi CmpIPredicate.eq (BitVec.ofNat 32 k.val) (BitVec.ofNat 32 m) = 0#1 := by
      simp [IntOp.cmpi, hd, h]
    rw [this]
    show (((BitVec.setWidth 32 0#1).toInt : ℝ) : EReal) = 0
    norm_num

/-- A sum against a one-hot column picks the row. -/
theorem sum_hot (m : ℕ) (hm : m < 128) (f : Fin 128 → EReal) :
    (∑ k : Fin 128, f k * FloatOps.sitofp (F := Ideal) .f32
        (BitVec.setWidth 32 (IntOp.cmpi CmpIPredicate.eq (BitVec.ofNat 32 k.val) (BitVec.ofNat 32 m)))) = f ⟨m, hm⟩ := by
  simp only [hot_eq m hm]
  rw [Finset.sum_eq_single ⟨m, hm⟩]
  · simp
  · intro k _ hk
    rw [if_neg (fun h => hk (Fin.ext h)), mul_zero]
  · intro h; exact absurd (Finset.mem_univ _) h

end Cert.Proof.Mix

end
-- ==== Proof.Mix.Value.lean ====
module

public import proofs.«01_k».proof.Proof.Math.Words
public import proofs.«01_k».proof.Proof.Math.Softmax

@[expose] public section

set_option maxRecDepth 16384

noncomputable section

namespace Cert.Proof.Mix

open Cert.KernelIdeal Cert.KernelIdeal.Gen
open Idealize.ShloMosaic Idealize.ShloMosaic.TcCoe Idealize.SL.Sem

/-- The number of the table row at which a sub-block's window starts: the tile of the integer part of the wrapped
    position `y` of its first sample. -/
def startRow (y : ℝ) : ℕ := ⌊y⌋.toNat / 16 * 16

/-- The integer part of a wrapped position is an index of the table. -/
theorem floor_lt (x : ℝ) : ⌊modLen x⌋.toNat < 4097 := by
  have h1 : ⌊modLen x⌋ < 4097 := Int.floor_lt.mpr (by exact_mod_cast modLen_lt x)
  have h0 : 0 ≤ ⌊modLen x⌋ := Int.floor_nonneg.mpr (modLen_nonneg x)
  omega

/-- A sub-block's integer index, of real values in range. -/
theorem baseWord_eq (E Z ξ : ℝ) (x0 : Vec Ideal S1x1x1 .f32) (hx : x0 (ix3 0 0 0) = (ξ : EReal))
    (h0 : 0 ≤ E + ξ - Z) (h1 : E + ξ - Z ≤ 45000) :
    baseWord (F := Ideal) (E : EReal) (0 : EReal) (Z : EReal) x0 = BitVec.ofNat 32 ⌊modLen (E + ξ - Z)⌋.toNat := by
  pointwise [baseWord, k1_pay5]
  rw [hx, ← EReal.coe_add, ← EReal.coe_sub, word_len, word_recip]
  refine (congrArg (FloatOps.fptosi (F := Ideal) (φ := .f32) 32) (?_ : _ = (((⌊modLen (E + ξ - Z)⌋ : ℝ) : EReal)))).trans
    (fptosi_floor _ (modLen_nonneg _) (lt_trans (modLen_lt _) (by norm_num)))
  rw [← wrap_eq _ h0 h1]
  exact (congrArg (Ideal.liftRound Int.floor) (wrap_ereal (E + ξ - Z)))

/-- The wrapped positions of a sub-block's samples, of real values in range. -/
theorem position_eq (E Z ξ : ℝ) (x : Vec Ideal S1x1x1024 .f32) (c : Fin 1024) (hx : x (ix3 0 0 c) = (ξ : EReal))
    (h0 : 0 ≤ E + ξ - Z) (h1 : E + ξ - Z ≤ 45000) :
    k1_pay4 (F := Ideal) (k1_pay1 (E : EReal) (0 : EReal) (Z : EReal) x) (k1_pay2 (E : EReal) (0 : EReal) (Z : EReal) x)
      (k1_pay3 (E : EReal) (0 : EReal) (Z : EReal) x) (ix2 0 c) = (modLen (E + ξ - Z) : EReal) := by
  pointwise [k1_pay4, k1_pay1, k1_pay2, k1_pay3]
  rw [hx, ← EReal.coe_add, ← EReal.coe_sub, word_len, word_recip, ← wrap_eq _ h0 h1]
  exact wrap_ereal (E + ξ - Z)

/-- What one sub-block stores at one sample, of its sample's place `q` in the window: the softmax-weighted
    interpolation of the window's rows, times the amplitude. -/
theorem store_eq (p : FVec Ideal S1x1024 .f32) (w : BitVec 32) (W : Vec Ideal S128x192 .bf16)
    (A : Vec Ideal S64x1024 .f32) (amp : Vec Ideal S1x1024 .f32) (c : Fin 1024) (y : ℝ) (sa : ℕ) (q : ℝ)
    (hp : p (ix2 0 c) = (y : EReal)) (hw : (Scalar.muli w 16#32).toInt = (sa : ℤ)) (hq : place y sa = q)
    (h0 : 0 ≤ q) (h1 : q < 112) (tab : ℕ → Fin 64 → ℝ) (a : Fin 64 → ℝ)
    (hA : ∀ n, A (ix2 n c) = (a n : EReal))
    (hW0 : ∀ (r : Fin 128) (n : Fin 64), W (ix2 r ⟨n.val, by omega⟩) = (tab (sa + r.val) n : EReal))
    (hW1 : ∀ (r : Fin 128) (n : Fin 64), W (ix2 r ⟨64 + n.val, by omega⟩) = (0 : EReal))
    (hW2 : ∀ (r : Fin 128) (n : Fin 64), W (ix2 r ⟨128 + n.val, by omega⟩)
      = ((tab (sa + r.val + 1) n - tab (sa + r.val) n : ℝ) : EReal)) :
    k1_pay6 (F := Ideal) (iota .tc S128x1024 32 [0] iota_S128x1024_d0_w32) p w 16#32 W A amp (ix2 0 c)
      = ((∑ n, (tab (sa + ⌊q⌋.toNat) n + (q - (⌊q⌋ : ℝ)) * (tab (sa + ⌊q⌋.toNat + 1) n - tab (sa + ⌊q⌋.toNat) n)) * weight a n : ℝ) : EReal)
        * amp (ix2 0 c) := by
  have hm : ⌊q⌋.toNat < 128 := by
    have h : ⌊q⌋ < 112 := Int.floor_lt.mpr (by exact_mod_cast h1)
    omega
  obtain ⟨M, hM⟩ := fold_max_real a
  pointwise [k1_pay6]
  have hpl : max (if p (ix2 0 c) - (((Scalar.muli w 16#32).toInt : ℝ) : EReal) < Ideal.ofBits FTy.f32 3296722944#32 then
        p (ix2 0 c) - (((Scalar.muli w 16#32).toInt : ℝ) : EReal) + Ideal.ofBits FTy.f32 1166018560#32
      else p (ix2 0 c) - (((Scalar.muli w 16#32).toInt : ℝ) : EReal)) 0 = (q : EReal) := by
    rw [hp, hw, word_threshold, word_len, ← hq]
    exact place_ereal y sa
  simp only [hpl, hA, word_least, hM]
  have hf : FloatOps.fptosi (F := Ideal) (φ := .f32) 32 (Ideal.liftRound Int.floor (q : EReal)) = BitVec.ofNat 32 ⌊q⌋.toNat := by
    rw [Ideal.liftRound_coe]
    exact fptosi_floor q h0 (lt_trans h1 (by norm_num))
  simp only [hf]
  simp only [sum_hot ⌊q⌋.toNat hm (fun k => W (ix2 k _))]
  congr 1
  rw [← ratio_of_sums a _ M]
  refine congrArg₂ Ideal.div (Finset.sum_congr rfl fun n _ => ?_) rfl
  congr 1
  rw [hW0, hW1, hW2, add_zero, Ideal.liftRound_coe, ← EReal.coe_sub, ← EReal.coe_mul, ← EReal.coe_add]

/-- WHAT ONE SUB-BLOCK STORES AT ONE SAMPLE: the oscillator's value at the sample's table position, times the
    amplitude, when the window holds the rows of a table that repeats every 4097 rows, from the row where it starts. -/
theorem subOut_eq (E Z ξ0 ξ : ℝ) (x : Vec Ideal S1x1x1024 .f32) (x0 : Vec Ideal S1x1x1 .f32) (W : Vec Ideal S128x192 .bf16)
    (A : Vec Ideal S64x1024 .f32) (amp : Vec Ideal S1x1024 .f32) (c : Fin 1024)
    (hx0 : x0 (ix3 0 0 0) = (ξ0 : EReal)) (hx : x (ix3 0 0 c) = (ξ : EReal))
    (h0 : 0 ≤ E + ξ0 - Z) (hle : ξ0 ≤ ξ) (hadv : ξ ≤ ξ0 + 96) (h1 : E + ξ - Z ≤ 45000)
    (tab : ℕ → Fin 64 → ℝ) (htab : ∀ k n, tab (k + 4097) n = tab k n) (a : Fin 64 → ℝ)
    (hA : ∀ n, A (ix2 n c) = (a n : EReal))
    (hW0 : ∀ (r : Fin 128) (n : Fin 64), W (ix2 r ⟨n.val, by omega⟩) = (tab (startRow (modLen (E + ξ0 - Z)) + r.val) n : EReal))
    (hW1 : ∀ (r : Fin 128) (n : Fin 64), W (ix2 r ⟨64 + n.val, by omega⟩) = (0 : EReal))
    (hW2 : ∀ (r : Fin 128) (n : Fin 64), W (ix2 r ⟨128 + n.val, by omega⟩)
      = ((tab (startRow (modLen (E + ξ0 - Z)) + r.val + 1) n - tab (startRow (modLen (E + ξ0 - Z)) + r.val) n : ℝ) : EReal)) :
    subOut (F := Ideal) (E : EReal) (0 : EReal) (Z : EReal) x x0 W A amp (ix2 0 c)
      = (voice tab a (modLen (E + ξ - Z)) : EReal) * amp (ix2 0 c) := by
  have hn := floor_lt (E + ξ0 - Z)
  have n0 : 0 ≤ ⌊modLen (E + ξ0 - Z)⌋ := Int.floor_nonneg.mpr (modLen_nonneg _)
  have hsa : ((startRow (modLen (E + ξ0 - Z)) : ℕ) : ℤ) = ⌊modLen (E + ξ0 - Z)⌋ / 16 * 16 := by
    unfold startRow; omega
  obtain ⟨k, hk, hk0, hk1⟩ := place_eq (E + ξ0 - Z) (E + ξ - Z) (by linarith) (by linarith)
  rw [← hsa] at hk hk0 hk1
  unfold subOut
  rw [baseWord_eq E Z ξ0 x0 hx0 h0 (by linarith), show tileWord (BitVec.ofNat 32 ⌊modLen (E + ξ0 - Z)⌋.toNat) = _ from tileWord_eq ⟨_, hn⟩]
  rw [store_eq _ _ W A amp c (modLen (E + ξ - Z)) (startRow (modLen (E + ξ0 - Z))) _
    (position_eq E Z ξ x c hx (by linarith) h1) (tile_toInt ⟨_, hn⟩) rfl hk0 hk1 tab a hA hW0 hW1 hW2]
  congr 2
  have m0 := modLen_nonneg (E + ξ - Z)
  have hfl : ⌊place (modLen (E + ξ - Z)) (startRow (modLen (E + ξ0 - Z)) : ℤ)⌋
      = ⌊modLen (E + ξ - Z)⌋ + (4097 * k : ℤ) - (startRow (modLen (E + ξ0 - Z)) : ℤ) := by
    rw [hk]
    have : modLen (E + ξ - Z) + 4097 * (k : ℝ) - (((startRow (modLen (E + ξ0 - Z)) : ℕ) : ℤ) : ℝ)
        = modLen (E + ξ - Z) + ((4097 * k - (startRow (modLen (E + ξ0 - Z)) : ℤ) : ℤ) : ℝ) := by push_cast; ring
    rw [this, Int.floor_add_intCast]; ring
  have hq0 : 0 ≤ ⌊place (modLen (E + ξ - Z)) (startRow (modLen (E + ξ0 - Z)) : ℤ)⌋ := Int.floor_nonneg.mpr hk0
  have hrow : startRow (modLen (E + ξ0 - Z)) + ⌊place (modLen (E + ξ - Z)) (startRow (modLen (E + ξ0 - Z)) : ℤ)⌋.toNat
      = ⌊modLen (E + ξ - Z)⌋.toNat + 4097 * k := by
    have : 0 ≤ ⌊modLen (E + ξ - Z)⌋ := Int.floor_nonneg.mpr m0
    omega
  have hper : ∀ (j m : ℕ) (n : Fin 64), tab (j + 4097 * m) n = tab j n := by
    intro j m n
    induction m with
    | zero => rfl
    | succ m ih => rw [Nat.mul_succ, ← Nat.add_assoc, htab, ih]
  have hal : place (modLen (E + ξ - Z)) (startRow (modLen (E + ξ0 - Z)) : ℤ)
        - ((⌊place (modLen (E + ξ - Z)) (startRow (modLen (E + ξ0 - Z)) : ℤ)⌋ : ℤ) : ℝ)
      = modLen (E + ξ - Z) - (⌊modLen (E + ξ - Z)⌋ : ℝ) := by
    rw [hfl, hk]; push_cast; ring
  unfold voice lerp
  refine Finset.sum_congr rfl fun n _ => ?_
  rw [hal, hrow, hper, Nat.add_right_comm, hper]

end Cert.Proof.Mix

end
-- ==== Proof.Mix.Block.lean ====
module

public import proofs.«01_k».proof.Proof.Mix.Value
public import proofs.«01_k».proof.Proof.Mix.Model
public import Idealize.ShloMosaic.Lib.WritesUnit

@[expose] public section

set_option maxRecDepth 16384

noncomputable section

namespace Cert.Proof.Mix

open Cert.KernelIdeal Cert.KernelIdeal.Gen
open Idealize.ShloMosaic Idealize.ShloMosaic.TcCoe Idealize.SL.Sem

/-- What the positions must satisfy: `E r` is the carry of row `r`, `R r k` the running sum at its column `k`, `Z` the
    first increment. Positions lie between 0 and 45000 and advance by at most 96 within 1024 samples. -/
structure InRange (E : ℕ → ℝ) (Z : ℝ) (R : ℕ → ℕ → ℝ) : Prop where
  lo : ∀ r k, r < 8 → k < 57344 → 0 ≤ E r + R r k - Z
  hi : ∀ r k, r < 8 → k < 57344 → E r + R r k - Z ≤ 45000
  mono : ∀ r k k', r < 8 → k ≤ k' → k' < 57344 → R r k ≤ R r k'
  adv : ∀ r k k', r < 8 → k ≤ k' → k' < k + 1024 → k' < 57344 → R r k' ≤ R r k + 96

/-- The position of sample `s` before it is wrapped. -/
def posn (E : ℕ → ℝ) (Z : ℝ) (R : ℕ → ℕ → ℝ) (s : ℕ) : ℝ := E (s / 57344) + R (s / 57344) (s % 57344) - Z

/-- The row carry's place for a grid point. -/
theorem off_hi : ∀ t : Fin grid1.N, k1_off1 (grid1.coords t) = ![t.val / 7, 0] := by decide +kernel
/-- The place in the table of row sums from which a point reads its low carry. -/
theorem off_lo : ∀ t : Fin grid1.N, k1_off2 (grid1.coords t) = ![t.val / 7, 1] := by decide +kernel
/-- The second call has 54 grid points. -/
theorem points_eq : grid1.N = 54 := by decide +kernel

section
variable (t : Fin grid1.N)
    (arg1 : Memref sig .tc .smem S8x4 .f32) (arg2 : Memref sig .tc .vmem S1x1x8192 .f32)
    (arg3 : Memref sig .tc .vmem S1x8192 .f32) (arg4 : Memref sig .tc .vmem S64x8192 .f32)
    (arg5 : Memref sig .tc .vmem S4240x192 .bf16)
    (X1 : BufTy.Contents (Elt Ideal) arg1.view.ty) (X2 : BufTy.Contents (Elt Ideal) arg2.view.ty)
    (X3 : BufTy.Contents (Elt Ideal) arg3.view.ty) (X4 : BufTy.Contents (Elt Ideal) arg4.view.ty) (X5 : BufTy.Contents (Elt Ideal) arg5.view.ty)
    (E : ℕ → ℝ) (Z : ℝ) (R : ℕ → ℕ → ℝ) (tab : ℕ → Fin 64 → ℝ) (a : Fin 64 → ℕ → ℝ)

/-- What the carries' buffer holds. -/
def HoldsCarry : Prop :=
  ∀ r : Fin 8, arg1.view.read (Elt Ideal) X1 (ix2 r 0) = (E r.val : EReal) ∧ arg1.view.read (Elt Ideal) X1 (ix2 r 1) = (0 : EReal)
    ∧ arg1.view.read (Elt Ideal) X1 (ix2 r 2) = (Z : EReal)
/-- What the running sums' buffer holds at a grid point. -/
def HoldsSums : Prop :=
  ∀ k : Fin 8192, arg2.view.read (Elt Ideal) X2 (ix3 0 0 k) = (R (t.val / 7) (t.val % 7 * 8192 + k.val) : EReal)
/-- What the attention's buffer holds at a grid point, on the columns inside the array. -/
def HoldsAtt : Prop :=
  ∀ (n : Fin 64) (k : Fin 8192), 8192 * t.val + k.val < 441000 → arg4.view.read (Elt Ideal) X4 (ix2 n k) = (a n (8192 * t.val + k.val) : EReal)
/-- What the table's buffer holds. -/
def HoldsTable : Prop :=
  ∀ (q : Fin 4240), q.val < 4225 → ∀ n : Fin 64,
    arg5.view.read (Elt Ideal) X5 (ix2 q ⟨n.val, by omega⟩) = (tab q.val n : EReal)
    ∧ arg5.view.read (Elt Ideal) X5 (ix2 q ⟨64 + n.val, by omega⟩) = (0 : EReal)
    ∧ arg5.view.read (Elt Ideal) X5 (ix2 q ⟨128 + n.val, by omega⟩) = ((tab (q.val + 1) n - tab q.val n : ℝ) : EReal)

section carry
variable (h1 : HoldsCarry arg1 X1 E Z)

include h1 in
/-- The high carry that a point reads is the sum of the increments of the rows before its own. -/
theorem carryHi_eq : carryHi (grid1.coords t) arg1 X1 = (E (t.val / 7) : EReal) := by
  have ht : t.val < 54 := points_eq ▸ t.isLt
  refine Eq.trans ?_ (h1 ⟨t.val / 7, by omega⟩).1
  unfold carryHi; rw [View.readAt_apply]; congr 1
  funext b; refine Fin.ext ?_
  show k1_off1 _ b + 1 * 0 = _
  rw [off_hi]
  fin_cases b <;> rfl

include h1 in
/-- The low carry that a point reads is zero: over the reals nothing is lost. -/
theorem carryLo_eq : carryLo (grid1.coords t) arg1 X1 = (0 : EReal) := by
  have ht : t.val < 54 := points_eq ▸ t.isLt
  refine Eq.trans ?_ (h1 ⟨t.val / 7, by omega⟩).2.1
  unfold carryLo; rw [View.readAt_apply]; congr 1
  funext b; refine Fin.ext ?_
  show k1_off2 _ b + 1 * 0 = _
  rw [off_lo]
  fin_cases b <;> rfl

include h1 in
/-- The first increment, as a point reads it. -/
theorem firstInc_eq : firstInc arg1 X1 = (Z : EReal) := by
  refine Eq.trans ?_ (h1 0).2.2
  unfold firstInc; rw [View.readAt_apply]; congr 1
  funext b; refine Fin.ext ?_
  fin_cases b <;> rfl
end carry

section sums
variable (h2 : HoldsSums t arg2 X2 R)
include h2
/-- The prefix sum within its row, as a point reads it at a sample. -/
theorem rawAt_eq (j : Fin 8) (k : Fin 1024) :
    rawAt arg2 X2 j (ix3 0 0 k) = (R (t.val / 7) (t.val % 7 * 8192 + (1024 * j.val + k.val)) : EReal) := by
  have hj := j.isLt; have hk := k.isLt
  refine Eq.trans ?_ (h2 ⟨1024 * j.val + k.val, by omega⟩)
  unfold rawAt; rw [View.readAt_apply]; congr 1
  funext b; refine Fin.ext ?_
  fin_cases b
  · rfl
  · rfl
  · show 1024 * j.val + 1 * k.val = 1024 * j.val + k.val; omega

/-- The prefix sum within its row at the first sample of a sub-block, which places the window. -/
theorem headAt_eq (j : Fin 8) :
    headAt arg2 X2 j (ix3 0 0 0) = (R (t.val / 7) (t.val % 7 * 8192 + 1024 * j.val) : EReal) := by
  have hj := j.isLt
  refine Eq.trans ?_ (h2 ⟨1024 * j.val, by omega⟩)
  unfold headAt; rw [View.readAt_apply]; congr 1
  funext b; refine Fin.ext ?_
  fin_cases b <;> rfl
end sums

variable (h1 : HoldsCarry arg1 X1 E Z) (h2 : HoldsSums t arg2 X2 R) (hR : InRange E Z R)

include h1 h2 hR in
/-- A sub-block's integer index is the integer part of the wrapped position of its first sample. -/
theorem baseAt_eq (j : Fin 8) : baseAt (grid1.coords t) arg1 arg2 X1 X2 j
    = BitVec.ofNat 32 ⌊modLen (E (t.val / 7) + R (t.val / 7) (t.val % 7 * 8192 + 1024 * j.val) - Z)⌋.toNat := by
  have ht : t.val < 54 := points_eq ▸ t.isLt
  have hj := j.isLt
  unfold baseAt
  rw [carryHi_eq t arg1 X1 E Z h1, carryLo_eq t arg1 X1 E Z h1, firstInc_eq arg1 X1 E Z h1]
  exact baseWord_eq _ _ _ _ (headAt_eq t arg2 X2 R h2 j) (hR.lo _ _ (by omega) (by omega)) (hR.hi _ _ (by omega) (by omega))

include h1 h2 hR in
/-- A sub-block's window lies inside the table. -/
theorem chk_all (j : Fin 8) : k1_chk1 (baseAt (grid1.coords t) arg1 arg2 X1 X2 j) := by
  rw [baseAt_eq t arg1 arg2 X1 X2 E Z R h1 h2 hR j]
  exact chk_of_lt ⟨_, floor_lt _⟩

variable (h5 : HoldsTable arg5 X5 tab)

include h1 h2 hR in
/-- A row of a sub-block's window is a row of the table. -/
theorem windowAt_read (j : Fin 8) (hc) (r : Fin 128) (n : Fin 192) (hq) :
    windowAt (grid1.coords t) arg1 arg2 X1 X2 arg5 X5 j hc (ix2 r n)
      = arg5.view.read (Elt Ideal) X5 (ix2 ⟨startRow (modLen (E (t.val / 7) + R (t.val / 7) (t.val % 7 * 8192 + 1024 * j.val) - Z)) + r.val, hq⟩ n) := by
  have off : k1_off3 (baseAt (grid1.coords t) arg1 arg2 X1 X2 j)
      = ![startRow (modLen (E (t.val / 7) + R (t.val / 7) (t.val % 7 * 8192 + 1024 * j.val) - Z)), 0] := by
    rw [baseAt_eq t arg1 arg2 X1 X2 E Z R h1 h2 hR j]
    exact off_eq ⟨_, floor_lt _⟩
  unfold windowAt
  generalize baseAt (grid1.coords t) arg1 arg2 X1 X2 j = w at hc off
  generalize startRow (modLen (E (t.val / 7) + R (t.val / 7) (t.val % 7 * 8192 + 1024 * j.val) - Z)) = sa at hq off
  rw [View.readAt_apply]; congr 1
  funext b; refine Fin.ext ?_
  have hb := congrFun off b
  show k1_off3 w b + 1 * (ix2 r n b).val = _
  rw [hb]
  fin_cases b
  · show sa + 1 * r.val = sa + r.val; omega
  · show 0 + 1 * n.val = n.val; omega

variable (h4 : HoldsAtt t arg4 X4 a) (htab : ∀ k n, tab (k + 4097) n = tab k n)

include h1 h2 hR h5 h4 htab in
/-- WHAT A SUB-BLOCK STORES AT A SAMPLE inside the array: the oscillator's value at the sample's position, times the
    amplitude its buffer holds. -/
theorem outAt_eq (j : Fin 8) (hc) (k : Fin 1024) (hs : 8192 * t.val + (1024 * j.val + k.val) < 441000) :
    outAt (grid1.coords t) arg1 arg2 X1 X2 arg3 arg4 arg5 X3 X4 X5 j hc (ix2 0 k)
      = (voice tab (fun n => a n (8192 * t.val + (1024 * j.val + k.val)))
          (modLen (posn E Z R (8192 * t.val + (1024 * j.val + k.val)))) : EReal)
        * arg3.view.read (Elt Ideal) X3 (ix2 0 ⟨1024 * j.val + k.val, by omega⟩) := by
  have ht : t.val < 54 := points_eq ▸ t.isLt
  have hj := j.isLt; have hk := k.isLt
  have hlt := floor_lt (E (t.val / 7) + R (t.val / 7) (t.val % 7 * 8192 + 1024 * j.val) - Z)
  have hq : ∀ r : Fin 128, startRow (modLen (E (t.val / 7) + R (t.val / 7) (t.val % 7 * 8192 + 1024 * j.val) - Z)) + r.val < 4225 := by
    intro r; have := r.isLt; unfold startRow; omega
  unfold outAt
  rw [carryHi_eq t arg1 X1 E Z h1, carryLo_eq t arg1 X1 E Z h1, firstInc_eq arg1 X1 E Z h1]
  rw [subOut_eq (E (t.val / 7)) Z _ _ _ _ _ _ _ k (headAt_eq t arg2 X2 R h2 j) (rawAt_eq t arg2 X2 R h2 j k)
    (hR.lo _ _ (by omega) (by omega)) (hR.mono _ _ _ (by omega) (by omega) (by omega))
    (hR.adv _ _ _ (by omega) (by omega) (by omega) (by omega)) (hR.hi _ _ (by omega) (by omega)) tab htab
    (fun n => a n (8192 * t.val + (1024 * j.val + k.val)))
    (fun n => by
      rw [← h4 n ⟨1024 * j.val + k.val, by omega⟩ hs]
      unfold attAt; rw [View.readAt_apply]; congr 1
      funext b; refine Fin.ext ?_
      fin_cases b
      · show 0 + 1 * n.val = n.val; omega
      · show 1024 * j.val + 1 * k.val = 1024 * j.val + k.val; omega)
    (fun r n => by
      rw [windowAt_read t arg1 arg2 arg5 X1 X2 X5 E Z R h1 h2 hR j hc r _ (by have := hq r; omega)]
      exact (h5 _ (hq r) n).1)
    (fun r n => by
      rw [windowAt_read t arg1 arg2 arg5 X1 X2 X5 E Z R h1 h2 hR j hc r _ (by have := hq r; omega)]
      exact (h5 _ (hq r) n).2.1)
    (fun r n => by
      rw [windowAt_read t arg1 arg2 arg5 X1 X2 X5 E Z R h1 h2 hR j hc r _ (by have := hq r; omega)]
      exact (h5 _ (hq r) n).2.2)]
  congr 2
  · unfold posn
    rw [show (8192 * t.val + (1024 * j.val + k.val)) / 57344 = t.val / 7 from by omega,
      show (8192 * t.val + (1024 * j.val + k.val)) % 57344 = t.val % 7 * 8192 + (1024 * j.val + k.val) from by omega]
  · unfold ampAt; rw [View.readAt_apply]; congr 1
    funext b; refine Fin.ext ?_
    fin_cases b
    · rfl
    · show 1024 * j.val + 1 * k.val = 1024 * j.val + k.val; omega

end

/-- The stores of the first `n` sub-blocks, last first. -/
def pieces (P : Fin 8 → FVec Ideal S1x1024 .f32) : (n : ℕ) → n ≤ 8 → List (View.Piece (Elt Ideal) S1x8192 .f32)
  | 0, _ => []
  | n + 1, h => ⟨Rect.unit (s := S1x8192) ![0, 1024 * n] S1x1024.size (inb_col 1 ⟨n, h⟩), P ⟨n, h⟩⟩ :: pieces P n (Nat.le_of_succ_le h)

/-- After the stores each column holds its sub-block's value. -/
theorem read_pieces (arg6 : Memref sig .tc .vmem S1x8192 .f32) (X6 : BufTy.Contents (Elt Ideal) arg6.view.ty)
    (P : Fin 8 → FVec Ideal S1x1024 .f32) (n : ℕ) (h : n ≤ 8) (j : Fin 8) (hj : j.val < n) (k : Fin 1024) :
    arg6.view.read (Elt Ideal) (arg6.view.writes (Elt Ideal) X6 (pieces P n h)) (ix2 0 ⟨1024 * j.val + k.val, by omega⟩)
      = P j (ix2 0 k) := by
  induction n with
  | zero => exact absurd hj (Nat.not_lt_zero _)
  | succ n ih =>
    have hk := k.isLt
    unfold pieces
    by_cases e : j.val = n
    · obtain rfl : j = ⟨n, h⟩ := Fin.ext e
      refine (View.read_writes_cons_unit_of_mem arg6.view X6 _ _ _ _ (ix2 0 k : S1x1024.Idx) rfl ?_).trans rfl
      intro b; fin_cases b
      · rfl
      · rfl
    · refine (View.read_writes_cons_unit_of_not_mem arg6.view X6 _ _ _ _ rfl 1 (Or.inl ?_)).trans (ih (Nat.le_of_succ_le h) (by omega))
      show 1024 * j.val + k.val < 1024 * n
      omega

end Cert.Proof.Mix

end
-- ==== Proof.Mix.Run.lean ====
module

public import proofs.«01_k».proof.Proof.Mix.Model
public import proofs.«01_k».proof.Proof.Gen.KernelIdeal.Points
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One block's resources: the five windows read at their contents and the written one. -/
abbrev Held1 (c : Dev nD)
    (arg1 : Memref sig .tc .smem S8x4 .f32) (arg2 : Memref sig .tc .vmem S1x1x8192 .f32)
    (arg3 : Memref sig .tc .vmem S1x8192 .f32) (arg4 : Memref sig .tc .vmem S64x8192 .f32)
    (arg5 : Memref sig .tc .vmem S4240x192 .bf16) (arg6 : Memref sig .tc .vmem S1x8192 .f32)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty) : sProp 𝕄G :=
  iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} X5) ∗ (arg6.view.loc (c : Thread nD τ) ↦[arg6.view.set]{fullShare} X6))

/-- The run of the second body from given buffers: what it leaves in the block of samples. -/
def mixRun (𝒱 : Variants) (c : Dev nD) (bd : Option 𝒱.V) (i : grid1.Coords)
    (arg1 : Memref sig .tc .smem S8x4 .f32) (harg1 : arg1.IsWhole) (arg2 : Memref sig .tc .vmem S1x1x8192 .f32) (harg2 : arg2.IsWhole)
    (arg3 : Memref sig .tc .vmem S1x8192 .f32) (harg3 : arg3.IsWhole) (arg4 : Memref sig .tc .vmem S64x8192 .f32) (harg4 : arg4.IsWhole)
    (arg5 : Memref sig .tc .vmem S4240x192 .bf16) (harg5 : arg5.IsWhole) (arg6 : Memref sig .tc .vmem S1x8192 .f32) (harg6 : arg6.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty)
    (hchk : ∀ j, k1_chk1 (baseAt i arg1 arg2 X1 X2 j)) :
    { L : List (View.Piece (Elt F) S1x8192 .f32) // ∀ (E : Set ℕ) (X6 : BufTy.Contents (Elt F) arg6.view.ty),
      Held1 (F := F) c arg1 arg2 arg3 arg4 arg5 arg6 X1 X2 X3 X4 X5 X6
      ⊢ wp Idealize.ShloMosaic.frame (wpE (defs₀ (F := F)) 𝒱 (c : Thread nD τ) bd) E (cc1__mix_kernel (F := F) i arg1 harg1 arg2 harg2 arg3 harg3 arg4 harg4 arg5 harg5 arg6 harg6)
          (fun _ => Held1 (F := F) c arg1 arg2 arg3 arg4 arg5 arg6 X1 X2 X3 X4 X5 (arg6.view.writes (Elt F) X6 L)) } := by
  refine ⟨?_, fun E X6 => ?run⟩
  case run =>
    iintro ⟨H1, H2, H3, H4, H5, H6⟩
    sl_exec (disch := first | ((with_reducible show k1_chk1 _); exact hchk 0) | ((with_reducible show k1_chk2 _); exact hchk 1) | ((with_reducible show k1_chk3 _); exact hchk 2) | ((with_reducible show k1_chk4 _); exact hchk 3) | ((with_reducible show k1_chk5 _); exact hchk 4) | ((with_reducible show k1_chk6 _); exact hchk 5) | ((with_reducible show k1_chk7 _); exact hchk 6) | ((with_reducible show k1_chk8 _); exact hchk 7))
    sl_step
    sl_close

/-- That run writes its block of samples piece by piece, one piece per sub-block. -/
theorem mixRun_pieces (𝒱 : Variants) (c : Dev nD) (bd : Option 𝒱.V) (i : grid1.Coords)
    (arg1 : Memref sig .tc .smem S8x4 .f32) (harg1 : arg1.IsWhole) (arg2 : Memref sig .tc .vmem S1x1x8192 .f32) (harg2 : arg2.IsWhole)
    (arg3 : Memref sig .tc .vmem S1x8192 .f32) (harg3 : arg3.IsWhole) (arg4 : Memref sig .tc .vmem S64x8192 .f32) (harg4 : arg4.IsWhole)
    (arg5 : Memref sig .tc .vmem S4240x192 .bf16) (harg5 : arg5.IsWhole) (arg6 : Memref sig .tc .vmem S1x8192 .f32) (harg6 : arg6.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty)
    (hchk : ∀ j, k1_chk1 (baseAt i arg1 arg2 X1 X2 j)) :
    (mixRun 𝒱 c bd i arg1 harg1 arg2 harg2 arg3 harg3 arg4 harg4 arg5 harg5 arg6 harg6 X1 X2 X3 X4 X5 hchk).1
      = [pieceAt i arg1 arg2 X1 X2 arg3 arg4 arg5 X3 X4 X5 7 (hchk 7), pieceAt i arg1 arg2 X1 X2 arg3 arg4 arg5 X3 X4 X5 6 (hchk 6), pieceAt i arg1 arg2 X1 X2 arg3 arg4 arg5 X3 X4 X5 5 (hchk 5), pieceAt i arg1 arg2 X1 X2 arg3 arg4 arg5 X3 X4 X5 4 (hchk 4), pieceAt i arg1 arg2 X1 X2 arg3 arg4 arg5 X3 X4 X5 3 (hchk 3), pieceAt i arg1 arg2 X1 X2 arg3 arg4 arg5 X3 X4 X5 2 (hchk 2), pieceAt i arg1 arg2 X1 X2 arg3 arg4 arg5 X3 X4 X5 1 (hchk 1), pieceAt i arg1 arg2 X1 X2 arg3 arg4 arg5 X3 X4 X5 0 (hchk 0)] := by
  unfold mixRun
  dsimp only
  repeat' refine congrArg₂ List.cons ?_ ?_
  all_goals rfl

end Cert.Proof.Mix

end
-- ==== Proof.Mix.Region.lean ====
module

public import proofs.«01_k».proof.Proof.Mix.Block
public import proofs.«01_k».proof.Proof.Mix.Run
public import proofs.«01_k».proof.Proof.Gen.KernelIdeal.Launch
public import Idealize.ShloMosaic.Lib.Pipeline.RegionArraysS
public import Idealize.ShloMosaic.Lib.Pipeline.FrameBody
public import Idealize.ShloMosaic.Lib.Pipeline.ValueKit

@[expose] public section

set_option maxRecDepth 16384

noncomputable section

namespace Cert.Proof.Mix

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄G" => MT nD τ sig Unit (Elt Ideal) ℕ (UR sig nD τ) ℕ

/-- The real numbers the region's arrays hold: the row carries, the first increment, the running sums, the table, the
    attention; and the amplitudes. -/
structure Data where
  E : ℕ → ℝ
  Z : ℝ
  R : ℕ → ℕ → ℝ
  tab : ℕ → Fin 64 → ℝ
  a : Fin 64 → ℕ → ℝ
  amp : ℕ → EReal

/-- The oscillator's value at sample `s`. -/
def Data.out (D : Data) (s : ℕ) : EReal :=
  (voice D.tab (fun n => D.a n s) (modLen (posn D.E D.Z D.R s)) : EReal) * D.amp s

/-- The arrays at entry hold the data, which are in range. -/
structure Data.Entry (D : Data) (V : Valuation τ sig (Elt Ideal)) : Prop where
  range : InRange D.E D.Z D.R
  periodic : ∀ k n, D.tab (k + 4097) n = D.tab k n
  carry : ∀ r : Fin 8, V main_call0_v24 (ix2 r (0 : Fin 4)) = (D.E r.val : EReal) ∧ V main_call0_v24 (ix2 r (1 : Fin 4)) = (0 : EReal)
    ∧ V main_call0_v24 (ix2 r (2 : Fin 4)) = (D.Z : EReal)
  sums : ∀ (r : Fin 8) (k : Fin 57344), V main_call0_v25 (ix3 r (0 : Fin 1) k) = (D.R r.val k.val : EReal)
  ampl : ∀ s : Fin 441000, V main_call0_v26 (ix2 (0 : Fin 1) s) = D.amp s.val
  att : ∀ (n : Fin 64) (s : Fin 441000), V main_arg3 (ix2 n s) = (D.a n s.val : EReal)
  table : ∀ (q : Fin 4240), q.val < 4225 → ∀ n : Fin 64,
    V main_call0_v16 (ix2 q (⟨n.val, by omega⟩ : Fin 192)) = (D.tab q.val n : EReal)
    ∧ V main_call0_v16 (ix2 q (⟨64 + n.val, by omega⟩ : Fin 192)) = (0 : EReal)
    ∧ V main_call0_v16 (ix2 q (⟨128 + n.val, by omega⟩ : Fin 192)) = ((D.tab (q.val + 1) n - D.tab q.val n : ℝ) : EReal)

variable (V : Dev nD → Valuation τ sig (Elt Ideal)) (D : Dev nD → Data)

/-- The region's proof data: the arrays at entry; an input's buffer keeps its block; the output's holds the
    oscillator's values of its block. -/
def dat1 (c : Dev nD) : Dat τ (Elt Ideal) Unit ℕ (UR sig nD τ) ℕ cfg1 c where
  A w := V c (Proc.devRef .tc (Pipeline.arrRef spec1 w))
  after w t := match w with
    | ⟨0, _⟩ => win1_0.fill (grid1.coords t) (fun _ => (0 : EReal)) ((win1_0.blk t).view.read (Elt Ideal) (V c main_call0_v24))
    | ⟨1, _⟩ => win1_1.fill (grid1.coords t) (fun _ => (0 : EReal)) ((win1_1.blk t).view.read (Elt Ideal) (V c main_call0_v25))
    | ⟨2, _⟩ => win1_2.fill (grid1.coords t) (fun _ => (0 : EReal)) ((win1_2.blk t).view.read (Elt Ideal) (V c main_call0_v26))
    | ⟨3, _⟩ => win1_3.fill (grid1.coords t) (fun _ => (0 : EReal)) ((win1_3.blk t).view.read (Elt Ideal) (V c main_arg3))
    | ⟨4, _⟩ => win1_4.fill (grid1.coords t) (fun _ => (0 : EReal)) ((win1_4.blk t).view.read (Elt Ideal) (V c main_call0_v16))
    | ⟨5, _⟩ => fun y => (D c).out (8192 * t.val + (y 1).val)
  Φ _ := Pipeline.scopedRest spec1 c
  q _ := fullShare
  owed _ := 0

/-- Every point sees the whole table of row sums. -/
theorem idx1_0 : ∀ t : Fin grid1.N, win1_0.index t = ![0, 0] := by decide +kernel
/-- The block of prefix sums of a point. -/
theorem idx1_1 : ∀ t : Fin grid1.N, win1_1.index t = ![t.val / 7, 0, t.val % 7] := by decide +kernel
/-- The block of amplitudes of a point. -/
theorem idx1_2 : ∀ t : Fin grid1.N, win1_2.index t = ![0, t.val] := by decide +kernel
/-- The block of attention of a point. -/
theorem idx1_3 : ∀ t : Fin grid1.N, win1_3.index t = ![0, t.val] := by decide +kernel
/-- Every point sees the whole padded table. -/
theorem idx1_4 : ∀ t : Fin grid1.N, win1_4.index t = ![0, 0] := by decide +kernel
/-- The block of samples that a point writes. -/
theorem idx1_5 : ∀ t : Fin grid1.N, win1_5.index t = ![0, t.val] := by decide +kernel
/-- The columns a cut block has inside the array. -/
theorem xs1_2 : ∀ t : Fin grid1.N, win1_2.xsize (grid1.coords t) = ![1, min 8192 (441000 - 8192 * t.val)] := by decide +kernel
/-- The last block of attention is cut at the end of the array. -/
theorem xs1_3 : ∀ t : Fin grid1.N, win1_3.xsize (grid1.coords t) = ![64, min 8192 (441000 - 8192 * t.val)] := by decide +kernel
/-- The last block of samples is cut at the end of the array. -/
theorem xs1_5 : ∀ t : Fin grid1.N, win1_5.xsize (grid1.coords t) = ![1, min 8192 (441000 - 8192 * t.val)] := by decide +kernel

/-- What the body finds in an input's buffer is its block. -/
theorem found0 (c : Dev nD) (t : Fin cfg1.N) (d) : (dat1 V D c).before (0 : Fin 6) t d = (dat1 V D c).fetched (0 : Fin 6) t d :=
  (dat1 V D c).before_in_eq_fetched 0 rfl (fun _ => rfl) (fun _ _ _ => rfl) (fun _ => win1_0.cut_fill _ (fun _ => (0 : EReal)) _) t d
/-- A point finds in its buffer the block of prefix sums that was fetched for it. -/
theorem found1 (c : Dev nD) (t : Fin cfg1.N) (d) : (dat1 V D c).before (1 : Fin 6) t d = (dat1 V D c).fetched (1 : Fin 6) t d :=
  (dat1 V D c).before_fetched 1 t (fetch1_1 t) d
/-- A point finds in its buffer the block of amplitudes that was fetched for it. -/
theorem found2 (c : Dev nD) (t : Fin cfg1.N) (d) : (dat1 V D c).before (2 : Fin 6) t d = (dat1 V D c).fetched (2 : Fin 6) t d :=
  (dat1 V D c).before_fetched 2 t (fetch1_2 t) d
/-- A point finds in its buffer the block of attention that was fetched for it. -/
theorem found3 (c : Dev nD) (t : Fin cfg1.N) (d) : (dat1 V D c).before (3 : Fin 6) t d = (dat1 V D c).fetched (3 : Fin 6) t d :=
  (dat1 V D c).before_fetched 3 t (fetch1_3 t) d
/-- A point finds in its buffer the table that was fetched for it. -/
theorem found4 (c : Dev nD) (t : Fin cfg1.N) (d) : (dat1 V D c).before (4 : Fin 6) t d = (dat1 V D c).fetched (4 : Fin 6) t d :=
  (dat1 V D c).before_in_eq_fetched 4 rfl (fun _ => rfl) (fun _ _ _ => rfl) (fun _ => win1_4.cut_fill _ (fun _ => (0 : EReal)) _) t d

/-- The carries' buffer holds the whole array. -/
theorem fetched0 (c : Dev nD) (t : Fin cfg1.N) (d) (i : S8x4.Idx) : (dat1 V D c).fetched (0 : Fin 6) t d i = V c main_call0_v24 i := by
  have hm : win1_0.moved (grid1.coords t) i = true := (win1_0.moved_iff _ i).mpr fun a => (i a).isLt
  unfold Dat.fetched Window.fill
  rw [dif_pos hm]
  show V c main_call0_v24 _ = V c main_call0_v24 _
  congr 1
  blk_ext [idx1_0 t]

/-- The table's buffer holds the whole array. -/
theorem fetched4 (c : Dev nD) (t : Fin cfg1.N) (d) (i : S4240x192.Idx) : (dat1 V D c).fetched (4 : Fin 6) t d i = V c main_call0_v16 i := by
  have hm : win1_4.moved (grid1.coords t) i = true := (win1_4.moved_iff _ i).mpr fun a => (i a).isLt
  unfold Dat.fetched Window.fill
  rw [dif_pos hm]
  show V c main_call0_v16 _ = V c main_call0_v16 _
  congr 1
  blk_ext [idx1_4 t]

/-- The running sums' buffer holds the point's block of its row. -/
theorem fetched1 (c : Dev nD) (t : Fin cfg1.N) (d) (k : Fin 8192) (h0 : t.val / 7 < 8) (h1 : t.val % 7 * 8192 + k.val < 57344) :
    (dat1 V D c).fetched (1 : Fin 6) t d (ix3 (0 : Fin 1) (0 : Fin 1) k)
      = V c main_call0_v25 (ix3 (⟨t.val / 7, h0⟩ : Fin 8) (0 : Fin 1) (⟨t.val % 7 * 8192 + k.val, h1⟩ : Fin 57344)) := by
  have hm : win1_1.moved (grid1.coords t) (ix3 (0 : Fin 1) (0 : Fin 1) k) = true :=
    (win1_1.moved_iff _ _).mpr fun a => ((ix3 (0 : Fin 1) (0 : Fin 1) k : S1x1x8192.Idx) a).isLt
  unfold Dat.fetched Window.fill
  rw [dif_pos hm]
  show V c main_call0_v25 _ = V c main_call0_v25 _
  congr 1
  blk_ext [idx1_1 t]

/-- The amplitudes' buffer holds the point's block, on the columns inside the array. -/
theorem fetched2 (c : Dev nD) (t : Fin cfg1.N) (d) (k : Fin 8192) (h : 8192 * t.val + k.val < 441000) :
    (dat1 V D c).fetched (2 : Fin 6) t d (ix2 (0 : Fin 1) k) = V c main_call0_v26 (ix2 (0 : Fin 1) (⟨8192 * t.val + k.val, h⟩ : Fin 441000)) := by
  have hk := k.isLt
  have hm : win1_2.moved (grid1.coords t) (ix2 (0 : Fin 1) k) = true := (win1_2.moved_iff _ _).mpr fun a => by
    rw [xs1_2 t]
    fin_cases a
    · exact Nat.zero_lt_one
    · show k.val < min 8192 (441000 - 8192 * t.val); omega
  unfold Dat.fetched Window.fill
  rw [dif_pos hm]
  show V c main_call0_v26 _ = V c main_call0_v26 _
  congr 1
  blk_ext [idx1_2 t]

/-- The attention's buffer holds the point's block, on the columns inside the array. -/
theorem fetched3 (c : Dev nD) (t : Fin cfg1.N) (d) (n : Fin 64) (k : Fin 8192) (h : 8192 * t.val + k.val < 441000) :
    (dat1 V D c).fetched (3 : Fin 6) t d (ix2 n k) = V c main_arg3 (ix2 n (⟨8192 * t.val + k.val, h⟩ : Fin 441000)) := by
  have hk := k.isLt
  have hm : win1_3.moved (grid1.coords t) (ix2 n k) = true := (win1_3.moved_iff _ _).mpr fun a => by
    rw [xs1_3 t]
    fin_cases a
    · exact n.isLt
    · show k.val < min 8192 (441000 - 8192 * t.val); omega
  unfold Dat.fetched Window.fill
  rw [dif_pos hm]
  show V c main_arg3 _ = V c main_arg3 _
  congr 1
  blk_ext [idx1_3 t]

/-- The body over its six buffers, each owned at what it holds: the output's ends holding, on the columns inside the
    array, the oscillator's values times the amplitudes found. -/
theorem mix_owns (D : Data) (hR : InRange D.E D.Z D.R) (htab : ∀ k n, D.tab (k + 4097) n = D.tab k n) (c : Dev nD) (E : Set ℕ) (t : Fin grid1.N)
    (arg1 : Memref sig .tc .smem S8x4 .f32) (harg1 : arg1.IsWhole) (arg2 : Memref sig .tc .vmem S1x1x8192 .f32) (harg2 : arg2.IsWhole)
    (arg3 : Memref sig .tc .vmem S1x8192 .f32) (harg3 : arg3.IsWhole) (arg4 : Memref sig .tc .vmem S64x8192 .f32) (harg4 : arg4.IsWhole)
    (arg5 : Memref sig .tc .vmem S4240x192 .bf16) (harg5 : arg5.IsWhole) (arg6 : Memref sig .tc .vmem S1x8192 .f32) (harg6 : arg6.IsWhole)
    (Y1 : S8x4.Idx → Elt Ideal .f32) (Y2 : S1x1x8192.Idx → Elt Ideal .f32) (Y3 : S1x8192.Idx → Elt Ideal .f32)
    (Y4 : S64x8192.Idx → Elt Ideal .f32) (Y5 : S4240x192.Idx → Elt Ideal .bf16) (Y6 : S1x8192.Idx → Elt Ideal .f32)
    (h1 : ∀ r : Fin 8, Y1 (ix2 r 0) = (D.E r.val : EReal) ∧ Y1 (ix2 r 1) = (0 : EReal) ∧ Y1 (ix2 r 2) = (D.Z : EReal))
    (h2 : ∀ k : Fin 8192, Y2 (ix3 0 0 k) = (D.R (t.val / 7) (t.val % 7 * 8192 + k.val) : EReal))
    (h4 : ∀ (n : Fin 64) (k : Fin 8192), 8192 * t.val + k.val < 441000 → Y4 (ix2 n k) = (D.a n (8192 * t.val + k.val) : EReal))
    (h5 : ∀ (q : Fin 4240), q.val < 4225 → ∀ n : Fin 64, Y5 (ix2 q ⟨n.val, by omega⟩) = (D.tab q.val n : EReal)
      ∧ Y5 (ix2 q ⟨64 + n.val, by omega⟩) = (0 : EReal)
      ∧ Y5 (ix2 q ⟨128 + n.val, by omega⟩) = ((D.tab (q.val + 1) n - D.tab q.val n : ℝ) : EReal)) :
    (iprop(owns (c : Thread nD τ) arg1 fullShare Y1 ∗ owns (c : Thread nD τ) arg2 fullShare Y2 ∗ owns (c : Thread nD τ) arg3 fullShare Y3
        ∗ owns (c : Thread nD τ) arg4 fullShare Y4 ∗ owns (c : Thread nD τ) arg5 fullShare Y5 ∗ owns (c : Thread nD τ) arg6 fullShare Y6) : sProp 𝕄G)
      ⊢ wp Idealize.ShloMosaic.frame (wpE (defs₀ (F := Ideal)) Variants.none c none) E
          (cc1__mix_kernel (grid1.coords t) arg1 harg1 arg2 harg2 arg3 harg3 arg4 harg4 arg5 harg5 arg6 harg6) (fun _ =>
            iprop(owns (c : Thread nD τ) arg1 fullShare Y1 ∗ owns (c : Thread nD τ) arg2 fullShare Y2 ∗ owns (c : Thread nD τ) arg3 fullShare Y3
              ∗ owns (c : Thread nD τ) arg4 fullShare Y4 ∗ owns (c : Thread nD τ) arg5 fullShare Y5
              ∗ ∃ Y : S1x8192.Idx → Elt Ideal .f32, ⌜∀ k : Fin 8192, 8192 * t.val + k.val < 441000 → Y (ix2 0 k)
                = (voice D.tab (fun n => D.a n (8192 * t.val + k.val)) (modLen (posn D.E D.Z D.R (8192 * t.val + k.val))) : EReal) * Y3 (ix2 0 k)⌝
                ∗ owns (c : Thread nD τ) arg6 fullShare Y)) := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩⟩
  have g1 : HoldsCarry arg1 f1 D.E D.Z := fun r => by rw [hf1]; exact h1 r
  have g2 : HoldsSums t arg2 f2 D.R := fun k => by rw [hf2]; exact h2 k
  have g4 : HoldsAtt t arg4 f4 D.a := fun n k hk => by rw [hf4]; exact h4 n k hk
  have g5 : HoldsTable arg5 f5 D.tab := fun q hq n => by rw [hf5]; exact h5 q hq n
  have hchk := chk_all t arg1 arg2 f1 f2 D.E D.Z D.R g1 g2 hR
  iapply wp_wand_r
  isplitl [H1 H2 H3 H4 H5 H6]
  · iapply (mixRun Variants.none c none (grid1.coords t) arg1 harg1 arg2 harg2 arg3 harg3 arg4 harg4 arg5 harg5 arg6 harg6 f1 f2 f3 f4 f5 hchk).2 E f6
    isplitl [H1]; · iexact H1
    isplitl [H2]; · iexact H2
    isplitl [H3]; · iexact H3
    isplitl [H4]; · iexact H4
    isplitl [H5]; · iexact H5
    iexact H6
  iintro %_ ⟨H1, H2, H3, H4, H5, H6⟩
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  · iexists (arg6.view.read (Elt Ideal) (arg6.view.writes (Elt Ideal) f6
      (mixRun Variants.none c none (grid1.coords t) arg1 harg1 arg2 harg2 arg3 harg3 arg4 harg4 arg5 harg5 arg6 harg6 f1 f2 f3 f4 f5 hchk).1))
    isplitr; rotate_left
    · iexists _; isplitr; rotate_left; · iexact H6
      ipureintro; rfl
    ipureintro
    intro k hk
    have hk' := k.isLt
    rw [mixRun_pieces]
    obtain ⟨j, l, hjl⟩ : ∃ (j : Fin 8) (l : Fin 1024), k.val = 1024 * j.val + l.val :=
      ⟨⟨k.val / 1024, by omega⟩, ⟨k.val % 1024, by omega⟩, by show _ = 1024 * (_ / 1024) + _ % 1024; omega⟩
    obtain ⟨kv, hkv⟩ := k
    obtain rfl : kv = 1024 * j.val + l.val := hjl
    refine (read_pieces arg6 f6 (fun j => outAt (grid1.coords t) arg1 arg2 f1 f2 arg3 arg4 arg5 f3 f4 f5 j (hchk j)) 8 (le_refl _) j j.isLt l).trans ?_
    rw [outAt_eq t arg1 arg2 arg3 arg4 arg5 f1 f2 f3 f4 f5 D.E D.Z D.R D.tab D.a g1 g2 hR g5 g4 htab j (hchk j) l hk, hf3]

/-- THE REGION'S BODY keeps the proof data's word. -/
theorem body1 (hD : ∀ c, (D c).Entry (V c)) (c : Dev nD) :
    BodyObligationLoose (dat1 V D c) (defs₀ (F := Ideal)) Variants.none () Set.univ := fun t => by
  have ht : t.val < 54 := points_eq ▸ t.isLt
  rw [bigSep_W1, bigSep_W1]
  simp only
  rw [show (dat1 V D c).Φ t.succ = (dat1 V D c).Φ t.castSucc from rfl,
    show (dat1 V D c).owesAt () t.succ = (dat1 V D c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [found0 V D c t d0, found1 V D c t d1, found2 V D c t d2, found3 V D c t d3, found4 V D c t d4]
  iapply wp_wand_r
  isplitl [H0 H1 H2 H3 H4 H5]
  · iapply (mix_owns (D c) (hD c).range (hD c).periodic c Set.univ t (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3))
      (st1_4 t) (hstage1_4 ((cfg1.slots t 4).cast nbuf1_4)) (st1_5 t) (hstage1_5 ((cfg1.slots t 5).cast nbuf1_5))
      ((dat1 V D c).fetched (0 : Fin 6) t d0) ((dat1 V D c).fetched (1 : Fin 6) t d1) ((dat1 V D c).fetched (2 : Fin 6) t d2)
      ((dat1 V D c).fetched (3 : Fin 6) t d3) ((dat1 V D c).fetched (4 : Fin 6) t d4) _
      (fun r => by simp only [fetched0]; exact (hD c).carry r)
      (fun k => (fetched1 V D c t d1 k (by omega) (by have := k.isLt; omega)).trans ((hD c).sums _ _))
      (fun n k h => (fetched3 V D c t d3 n k h).trans ((hD c).att n _))
      (fun q hq n => by simp only [fetched4]; exact (hD c).table q hq n))
    isplitl [H0]; · iexact H0
    isplitl [H1]; · iexact H1
    isplitl [H2]; · iexact H2
    isplitl [H3]; · iexact H3
    isplitl [H4]; · iexact H4
    iexact H5
  iintro %_ ⟨H0, H1, H2, H3, H4, ⟨%Y, %hY, H5⟩⟩
  isplitl [HΦ]; · iexact HΦ
  isplitl [Ho]; · iexact Ho
  have e0 : (dat1 V D c).fetched (0 : Fin 6) t d0 = (dat1 V D c).after (0 : Fin 6) t :=
    (dat1 V D c).fetched_of_clip_none 0 t (fun _ => rfl) d0 (fun _ => (0 : EReal))
  have e1 : (dat1 V D c).fetched (1 : Fin 6) t d1 = (dat1 V D c).after (1 : Fin 6) t :=
    (dat1 V D c).fetched_of_clip_none 1 t (fun _ => rfl) d1 (fun _ => (0 : EReal))
  have e4 : (dat1 V D c).fetched (4 : Fin 6) t d4 = (dat1 V D c).after (4 : Fin 6) t :=
    (dat1 V D c).fetched_of_clip_none 4 t (fun _ => rfl) d4 (fun _ => (0 : EReal))
  have e2 : (dat1 V D c).fetched (2 : Fin 6) t d2 = win1_2.fill (grid1.coords t) d2 (win1_2.cut (grid1.coords t) ((dat1 V D c).after (2 : Fin 6) t)) :=
    congrArg (win1_2.fill (grid1.coords t) d2) (win1_2.cut_fill (grid1.coords t) (fun _ => (0 : EReal)) _).symm
  have e3 : (dat1 V D c).fetched (3 : Fin 6) t d3 = win1_3.fill (grid1.coords t) d3 (win1_3.cut (grid1.coords t) ((dat1 V D c).after (3 : Fin 6) t)) :=
    congrArg (win1_3.fill (grid1.coords t) d3) (win1_3.cut_fill (grid1.coords t) (fun _ => (0 : EReal)) _).symm
  have e5 : Y = win1_5.fill (grid1.coords t) Y (win1_5.cut (grid1.coords t) ((dat1 V D c).after (5 : Fin 6) t)) := by
    funext i
    by_cases hm : win1_5.moved (grid1.coords t) i = true
    · have hi : (i 1).val < min 8192 (441000 - 8192 * t.val) := by
        have := (win1_5.moved_iff _ i).mp hm 1
        rw [xs1_5 t] at this; exact this
      have hs : 8192 * t.val + (i 1).val < 441000 := by omega
      unfold Window.fill
      rw [dif_pos hm]
      have e := hY (i 1) hs
      rw [fetched2 V D c t d2 (i 1) hs, (hD c).ampl] at e
      refine Eq.trans ?_ e
      exact congrArg Y ((eq_ix2 i).trans (congrArg (fun z => ix2 z (i 1)) (Subsingleton.elim (α := Fin 1) _ _)))
    · exact (win1_5.fill_of_not_moved _ _ _ hm).symm
  rw [e0, e1, e4, e2, e3]
  isplitl [H0]; · iexact H0
  isplitl [H1]; · iexact H1
  isplitl [H2]; · iexists d2; iexact H2
  isplitl [H3]; · iexists d3; iexact H3
  isplitl [H4]; · iexact H4
  iexists Y
  change _ ⊢ owns (c : Thread nD τ) (stage1_5 (cfg1.slots t 5)) fullShare
    (win1_5.fill (grid1.coords t) Y (win1_5.cut (grid1.coords t) ((dat1 V D c).after (5 : Fin 6) t)))
  rw [← e5]

/-- The output's array after the region. -/
theorem out_array (c : Dev nD) :
    (dat1 V D c).arrAt (5 : Fin 6) cfg1.N = fun i : S1x441000.Idx => (D c).out (i 1).val := by
  refine (dat1 V D c).arrAt_eq_of_covers 5 _ (by decide +kernel) fun t _ y => ?_
  blk_simp
  show (D c).out (8192 * t.val + (y 1).val) = (D c).out (win1_5.index t 1 * 8192 + (y 1).val)
  rw [idx1_5 t]
  show (D c).out (8192 * t.val + (y 1).val) = (D c).out (t.val * 8192 + (y 1).val)
  rw [Nat.mul_comm]

end Cert.Proof.Mix

end
-- ==== Proof.Kernel.Run.lean ====
module

public import proofs.«01_k».proof.Proof.Kernel.Cond
public import proofs.«01_k».proof.Proof.Scan.Region
public import proofs.«01_k».proof.Proof.Mix.Region

@[expose] public section

set_option maxRecDepth 16384

noncomputable section

namespace Cert.Proof.Kernel

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion arrRef)
open Cert.Proof.Scan (dat0)
open Cert.Proof.Mix (dat1 Data)

local notation "𝕄G" => MT nD τ sig Unit (Elt Ideal) ℕ (UR sig nD τ) ℕ

variable (m : (ℓ : Loc nD τ sig) → Buf (Elt Ideal) ℓ) (g : Dev nD → Fin 8 → ℕ → ℝ) (D : Dev nD → Data)

/-- What the scan's region leaves. -/
def outsScan : Outs (F := Ideal) := fun _ r c => afterRegion (dat0 (V1 m) g c) (V1 m c) (Proc.devRef .tc r)

/-- What each region leaves. -/
def outs : Outs (F := Ideal) := fun J r c => match J with
  | 2 => outsScan m g 2 r c
  | _ => afterRegion (dat1 (V3 m (outsScan m g)) D c) (V3 m (outsScan m g) c) (Proc.devRef .tc r)

/-- The two regions' proof data. -/
def pdats : (p : Fin 2) → (c : Dev nD) → Dat τ (Elt Ideal) Unit ℕ (UR sig nD τ) ℕ (cfgs p) c
  | ⟨0, _⟩, c => dat0 (V1 m) g c
  | ⟨1, _⟩, c => dat1 (V3 m (outsScan m g)) D c

/-- The scan's region changes its two results only. -/
theorem after_scan (c : Dev nD) (r : Ref sig .tc) :
    afterRegion (dat0 (V1 m) g c) (V1 m c) (Proc.devRef .tc r) = V2 m (outs m g D) c (Proc.devRef .tc r) := by
  by_cases h1 : r = main_call0_v23_1
  · subst h1
    simp only [V2, V4, Function.update_self]; rfl
  · by_cases h0 : r = main_call0_v23_0
    · subst h0
      simp only [V2, Function.update_of_ne (StableHlo.devRef_ne_of_ne h1 : (Proc.devRef .tc main_call0_v23_0 : DevRef τ sig) ≠ Proc.devRef .tc main_call0_v23_1), Function.update_self]; rfl
    · refine (Pipeline.afterRegion_keeps (dat0 (V1 m) g c) (V1 m c) winFacts0.arr_inj (fun _ => rfl) r fun w e => ?_).trans
        (V2_of m (outs m g D) c r (by simp [h0, h1])).symm
      fin_cases w
      · rfl
      · exact absurd e.symm h0
      · exact absurd e.symm h1

/-- The mixing region changes its result only. -/
theorem after_mix (c : Dev nD) (r : Ref sig .tc) :
    afterRegion (dat1 (V3 m (outsScan m g)) D c) (V3 m (outs m g D) c) (Proc.devRef .tc r) = V4 m (outs m g D) c (Proc.devRef .tc r) := by
  by_cases h1 : r = main_call0_v27
  · subst h1
    simp only [V2, V4, Function.update_self]; rfl
  · refine (Pipeline.afterRegion_keeps (dat1 (V3 m (outsScan m g)) D c) (V3 m (outs m g D) c) winFacts1.arr_inj (fun _ => rfl) r fun w e => ?_).trans
        (V4_of m (outs m g D) c r (by simp [h1])).symm
    fin_cases w
    · rfl
    · rfl
    · rfl
    · rfl
    · rfl
    · exact absurd e.symm h1

/-- The order of the waits: the tensor core's cells carry the one index. -/
def L : GSem nD τ sig → Finset Unit := fun g => if g.1.2 = .tc then {()} else ∅

/-- The levels are all the same. -/
def lv : GSem nD τ sig → Unit → ℕ := fun _ _ => 0

/-- A core owes nothing. -/
abbrev Owes0 (c : Dev nD) : sProp 𝕄G := iprop(∃ W, owes (c : Thread nD τ) (0 : CellTallies nD τ sig Unit) W)

/-- Nothing is owed, so the cut of the levels holds of every region. -/
theorem cut (p : Fin 2) : Pipeline.LevelCut (pcfgs (F := Ideal)) adm () L lv p (fun _ => (0 : CellTallies nD τ sig Unit)) (fun _ => 0) where
  hι := by intros; simp [L]
  hιb := by intros; exact le_rfl
  hD := by intro c g i h; exact absurd h (lt_irrefl _)

/-- The scan's region. -/
def reg0 (hX : ∀ c r (k : Fin 57344), V1 m c main_call0_v22 (ValueIdx.ix2 r k) = (g c r k.val : EReal)) :
    RegionSeg (pcfgs (F := Ideal)) adm (pdats m g D) () defs₀ Variants.none L lv 0 :=
  RegionSeg.ofHeldIn (pcfgs (F := Ideal)) adm (pdats m g D) () defs₀ Variants.none L lv 0 (fun _ => 0)
    (Pipeline.ucRefs τ sig) (fun _ => iprop(emp)) (fun _ => iprop(emp)) launch0.toP rfl
    (fun c => (Scan.body0 (V1 m) g hX c).loose) (fun _ _ => rfl) (fun _ => rfl)
    (fun c => (dat0 (V1 m) g c).share_full fun _ => rfl)
    (fun c => BI.sep_emp_elim) (fun c => BI.sep_emp_intro)
    (fun _ => 0) (cut 0) (fun _ => iprop(emp)) (V1 m) (fun _ _ => rfl)

/-- The mixing region. -/
def reg1 (hD : ∀ c, (D c).Entry (V3 m (outsScan m g) c)) :
    RegionSeg (pcfgs (F := Ideal)) adm (pdats m g D) () defs₀ Variants.none L lv 1 :=
  RegionSeg.ofHeldIn (pcfgs (F := Ideal)) adm (pdats m g D) () defs₀ Variants.none L lv 1 (fun _ => 0)
    (Pipeline.ucRefs τ sig) (fun _ => iprop(emp)) (fun _ => iprop(emp)) launch1.toP rfl
    (fun c => Mix.body1 (V3 m (outsScan m g)) D hD c) (fun _ _ => rfl) (fun _ => rfl)
    (fun c => (dat1 (V3 m (outsScan m g)) D c).share_full fun _ => rfl)
    (fun c => BI.sep_emp_elim) (fun c => BI.sep_emp_intro)
    (fun _ => 0) (cut 1) (fun _ => iprop(emp)) (V3 m (outsScan m g)) (fun _ _ => rfl)

/-- Every buffer outside the regions is one of the tensor core's. -/
theorem held_scan (c : Dev nD) :
    (StableHlo.held (c : Thread nD τ) (Pipeline.ucRefs τ sig) (afterRegion (dat0 (V1 m) g c) (V1 m c)) : sProp 𝕄G)
      = StableHlo.held (c : Thread nD τ) (Pipeline.ucRefs τ sig) (V2 m (outs m g D) c) :=
  StableHlo.held_congr _ fun b hb => by
    obtain ⟨r, -, rfl⟩ := Finset.mem_map.mp (Finset.mem_filter.mp hb).1
    exact after_scan m g D c r

/-- Likewise after the mixing region. -/
theorem held_mix (c : Dev nD) :
    (StableHlo.held (c : Thread nD τ) (Pipeline.ucRefs τ sig) (afterRegion (dat1 (V3 m (outsScan m g)) D c) (V3 m (outsScan m g) c)) : sProp 𝕄G)
      = StableHlo.held (c : Thread nD τ) (Pipeline.ucRefs τ sig) (V4 m (outs m g D) c) :=
  StableHlo.held_congr _ fun b hb => by
    obtain ⟨r, -, rfl⟩ := Finset.mem_map.mp (Finset.mem_filter.mp hb).1
    exact after_mix m g D c r

/-- THE RUN. When the increments entering the scan are `g`'s and the arrays entering the mixing region are `D`'s, every
    execution terminates with the result computed from what the regions leave, and the arguments as launched. -/
theorem run_main (ρ : Dev nD → PrngReg) (hX : ∀ c r (k : Fin 57344), V1 m c main_call0_v22 (ValueIdx.ix2 r k) = (g c r k.val : EReal))
    (hD : ∀ c, (D c).Entry (V3 m (outsScan m g) c)) :
    θ_run defs (onTc (τ := τ) (main (F := Ideal))) ⟨m, fun _ => 0, ρ⟩ (fun r => (∀ c : Dev nD,
      r.2.mem ((c.tc : Thread nD τ).loc main_v0) = V5 m (outs m g D) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine run_cond m emb₁ () Variants.none L lv (fun g h => by simp [L, h]) ρ (outs m g D) (pdats m g D) 0 (fun _ => iprop(emp))
    (initOf (Pipeline.cells cfgs cellOf_inj) (Pipeline.launchToks cfgs cellOf_inj)) ?_ (fun _ c => Owes0 c) ?_ (fun c => .rfl)
    (reg0 m g D hX) ?_ ?_ (reg1 m g D hD) ?_ ?_
  · iintro H
    imodintro
    isplitl [H]
    · iapply (show (ownU _ : sProp 𝕄G) ⊢ BI.own (emb₁ (initOf (Pipeline.cells cfgs cellOf_inj) (Pipeline.launchToks cfgs cellOf_inj))) from .rfl)
      iexact H
    iapply (BI.bigSep_intro_persistent (S := Finset.univ) fun (c : Dev nD) _ => (BI.Entails.refl (iprop(emp) : sProp 𝕄G)))
    iempintro
  · refine Pipeline.initEach L lv fun c => ?_
    iintro ⟨⟨-, HO, -⟩, -⟩
    imodintro
    iexists _
    iexact HO
  · intro c
    refine BIBase.Entails.trans ?_ (RegionSeg.ofHeldIn_pre (Pipeline.arrRefs_sub_ucRefs _ (by decide)) c)
    iintro ⟨Hh, HO⟩
    isplitl [Hh]; · iexact Hh
    isplitl [HO]; · iexact HO
    isplitl []; · iempintro
    iempintro
  · intro c
    refine (RegionSeg.ofHeldIn_post (Pipeline.arrRefs_sub_ucRefs _ (by decide)) c).trans ?_
    rw [← held_scan m g D c]
    iintro ⟨Hh, HO, -⟩
    isplitl [Hh]; · iexact Hh
    iexact HO
  · intro c
    refine BIBase.Entails.trans ?_ (RegionSeg.ofHeldIn_pre (Pipeline.arrRefs_sub_ucRefs _ (by decide)) c)
    iintro ⟨Hh, HO⟩
    isplitl [Hh]; · iexact Hh
    isplitl [HO]; · iexact HO
    isplitl []; · iempintro
    iempintro
  · intro c
    refine (RegionSeg.ofHeldIn_post (Pipeline.arrRefs_sub_ucRefs _ (by decide)) c).trans ?_
    rw [← held_mix m g D c]
    iintro ⟨Hh, HO, -⟩
    isplitl [Hh]; · iexact Hh
    iexact HO

end Cert.Proof.Kernel

end
-- ==== Proof.Math.Inputs.lean ====
module

public import proofs.«01_k».proof.Proof.Math.Softmax
public import proofs.«01_k».proof.Proof.Math.Wrap
public import proofs.«01_k».proof.Pre_inputs_in_range
public import Idealize.ShloMosaic.Lib.Pointwise

@[expose] public section

noncomputable section

namespace Cert.Proof

open Idealize.ShloMosaic

/-! The oscillator as a function of its argument arrays. -/

/-- The samples' pitches. -/
abbrev Pitches : Type := (⟨1, ![441000]⟩ : Shape).Idx → EReal
/-- The samples' amplitudes. -/
abbrev Amps : Type := (⟨3, ![1, 441000, 1]⟩ : Shape).Idx → EReal
/-- The wavetables. -/
abbrev Tables : Type := (⟨2, ![64, 4097]⟩ : Shape).Idx → EReal
/-- The wavetables' attention at each sample. -/
abbrev Attn : Type := (⟨2, ![64, 441000]⟩ : Shape).Idx → EReal

variable (P : Pitches) (Q : Amps) (W : Tables) (A : Attn)

/-- How far sample `s` advances the table position; zero past the last sample. -/
def inc (s : ℕ) : ℝ := if h : s < 441000 then (P (ix1 ⟨s, h⟩)).toReal / 44100 * 4097 else 0

/-- The table position of sample `s` before it is wrapped. -/
def position (s : ℕ) : ℝ := ∑ i ∈ Finset.range (s + 1), inc P i - inc P 0

/-- Row `k` of the table repeated with period 4097: the wavetables with the last entry tied to the first. -/
def tabOf (k : ℕ) (n : Fin 64) : ℝ := (W (ix2 n (⟨k % 4097 % 4096, by omega⟩ : Fin 4097))).toReal

/-- The attention as real numbers. -/
def attOf (n : Fin 64) (s : ℕ) : ℝ := if h : s < 441000 then (A (ix2 n ⟨s, h⟩)).toReal else 0

/-- The amplitudes along the samples. -/
def ampOf (s : ℕ) : EReal := if h : s < 441000 then Q (ix3 (0 : Fin 1) ⟨s, h⟩ (0 : Fin 1)) else 0

/-- The oscillator's value at sample `s`. -/
def oscillator (s : ℕ) : EReal :=
  (voice (tabOf W) (fun n => attOf A n s) (modLen (position P s)) : EReal) * ampOf Q s

/-- The arguments are real numbers, the pitches between 0 and 1. -/
structure Fine : Prop where
  pitch : ∀ s, ∃ x : ℝ, P (ix1 s) = (x : EReal) ∧ 0 ≤ x ∧ x ≤ 1
  table : ∀ n k, W (ix2 n k) = ((W (ix2 n k)).toReal : EReal)
  att : ∀ n s, A (ix2 n s) = ((A (ix2 n s)).toReal : EReal)

variable {P Q W A}

/-- An entry of the wavetables at the place of row `k` of the repeated table. -/
theorem Fine.tab (h : Fine P W A) (n : Fin 64) (x : Fin 4097) (k : ℕ) (e : x.val = k % 4097 % 4096) :
    W (ix2 n x) = (tabOf W k n : EReal) := by
  have hk : k % 4097 % 4096 < 4097 := by omega
  rw [show x = ⟨k % 4097 % 4096, hk⟩ from Fin.ext e]
  exact h.table n _

/-- An increment is nonnegative and at most 4097/44100. -/
theorem inc_bounds (h : Fine P W A) (s : ℕ) : 0 ≤ inc P s ∧ inc P s ≤ 0.093 := by
  unfold inc
  split
  · obtain ⟨x, e, h0, h1⟩ := h.pitch ⟨s, by assumption⟩
    rw [e, EReal.toReal_coe]
    constructor <;> norm_num <;> linarith
  · norm_num

/-- A sum of increments is nonnegative and bounded by their number. -/
theorem sum_inc_bounds (h : Fine P W A) (s n : ℕ) :
    0 ≤ ∑ i ∈ Finset.range n, inc P (s + i) ∧ ∑ i ∈ Finset.range n, inc P (s + i) ≤ 0.093 * n := by
  refine ⟨Finset.sum_nonneg fun i _ => (inc_bounds h _).1, ?_⟩
  refine (Finset.sum_le_card_nsmul _ _ 0.093 fun i _ => (inc_bounds h _).2).trans ?_
  rw [Finset.card_range, nsmul_eq_mul, mul_comm]

/-- The table has period 4097. -/
theorem tabOf_periodic (k : ℕ) (n : Fin 64) : tabOf W (k + 4097) n = tabOf W k n := by
  unfold tabOf
  congr 3
  exact Fin.ext (by show (k + 4097) % 4097 % 4096 = k % 4097 % 4096; omega)

/-- An extended real between 0 and 1 is a real number there. -/
theorem real_of_between {x : EReal} (h0 : 0 ≤ x) (h1 : x ≤ 1) : ∃ y : ℝ, x = (y : EReal) ∧ 0 ≤ y ∧ y ≤ 1 := by
  induction x using EReal.rec with
  | bot => exact absurd h0 (by simp)
  | coe y => exact ⟨y, rfl, by exact_mod_cast h0, by exact_mod_cast h1⟩
  | top => exact absurd h1 (not_le.mpr (EReal.coe_lt_top 1))

/-- An extended real of finite absolute value is a real number. -/
theorem real_of_abs {x : EReal} (h : (FloatOps.absf (F := Ideal) (φ := .f32) x : EReal) < Ideal.ofBits .f32 2139095040#32) :
    x = (x.toReal : EReal) := by
  have e : Ideal.ofBits .f32 2139095040#32 = (⊤ : EReal) := by simp [Ideal.ofBits, Ideal.ieee]
  rw [e] at h
  induction x using EReal.rec with
  | bot => exact absurd h (by show ¬ max (⊥ : EReal) (-⊥) < ⊤; simp)
  | coe y => rfl
  | top => exact absurd h (by show ¬ max (⊤ : EReal) (-⊤) < ⊤; simp)

/-- The arrays satisfying the precondition are real, the pitches between 0 and 1. -/
theorem fine_of_pre [Cert.Pre_inputs_in_range.Facts] (N : IVec (⟨0, ![]⟩ : Shape) 32)
    (h1 : (Cert.Pre_inputs_in_range.fn (F := Ideal) P Q W A N).1 = fun _ => 1#1)
    (h2 : (Cert.Pre_inputs_in_range.fn (F := Ideal) P Q W A N).2.1 = fun _ => 1#1)
    (h3 : (Cert.Pre_inputs_in_range.fn (F := Ideal) P Q W A N).2.2 = fun _ => 1#1) : Fine P W A where
  pitch s := by
    have := congrFun h1 (ix1 s)
    simp only [Cert.Pre_inputs_in_range.fn] at this
    pointwise at this
    have hb : ∀ a b : Bool, IntOp.andi (BitVec.ofBool a) (BitVec.ofBool b) = 1#1 → a = true ∧ b = true := by decide
    obtain ⟨ha, hb⟩ := hb _ _ this
    exact real_of_between (of_decide_eq_true ha) (of_decide_eq_true hb)
  table n k := by
    have := congrFun h2 (ix2 n k)
    simp only [Cert.Pre_inputs_in_range.fn] at this
    pointwise at this
    have hb : ∀ a : Bool, BitVec.ofBool a = 1#1 → a = true := by decide
    exact real_of_abs (of_decide_eq_true (hb _ this))
  att n s := by
    have := congrFun h3 (ix2 n s)
    simp only [Cert.Pre_inputs_in_range.fn] at this
    pointwise at this
    have hb : ∀ a : Bool, BitVec.ofBool a = 1#1 → a = true := by decide
    exact real_of_abs (of_decide_eq_true (hb _ this))

end Cert.Proof

end
-- ==== Proof.Kernel.Host.lean ====
module

public import proofs.«01_k».proof.Proof.Kernel.Run
public import proofs.«01_k».proof.Proof.Math.Inputs
public import Idealize.ShloMosaic.Lib.StableHlo.ReadAt

@[expose] public section

set_option maxRecDepth 16384

noncomputable section

namespace Cert.Proof.Kernel

open Cert.KernelIdeal Cert.KernelIdeal.Gen
open Idealize.ShloMosaic Idealize.ShloMosaic.TcCoe

variable (m : (ℓ : Loc nD τ sig) → Buf (Elt Ideal) ℓ)

/-- Core `c`'s pitches at launch. -/
abbrev argP (c : Dev nD) : Pitches := m ((c : Thread nD τ).loc main_arg0)
/-- Core `c`'s amplitudes at launch. -/
abbrev argQ (c : Dev nD) : Amps := m ((c : Thread nD τ).loc main_arg1)
/-- Core `c`'s wavetables at launch. -/
abbrev argW (c : Dev nD) : Tables := m ((c : Thread nD τ).loc main_arg2)
/-- Core `c`'s attention at launch. -/
abbrev argA (c : Dev nD) : Attn := m ((c : Thread nD τ).loc main_arg3)

/-- The increments as the scan reads them: row `r`, column `k`. -/
def grid (c : Dev nD) (r : Fin 8) (k : ℕ) : ℝ := inc (argP m c) (r.val * 57344 + k)

/-- The increments entering the scan. -/
theorem incr_read (c : Dev nD) (hf : Fine (argP m c) (argW m c) (argA m c)) (r : Fin 8) (k : Fin 57344) :
    V1 m c main_call0_v22 (ix2 r k) = (grid m c r k.val : EReal) := by
  show StableHlo.after hostOps0 (V0 m c) (Proc.devRef .tc main_call0_v22) (ix2 r k) = _
  after_reads_at
  unfold grid inc
  split
  · obtain ⟨x, e, -⟩ := hf.pitch ⟨r.val * 57344 + k.val, by assumption⟩
    have e' : V0 m c (Proc.tc.devRef main_arg0) (ix1 (⟨r.val * 57344 + k.val, by assumption⟩ : Fin 441000)) = (x : EReal) := e
    rw [e', e, EReal.toReal_coe, word_len, show (1194083328#32 : BitVec 32) = 0x472C4400#32 from rfl, word_rate,
      Ideal.div_coe (by norm_num), ← EReal.coe_mul, ← EReal.coe_mul, mul_one_div]
  · show (((0#32 : BitVec 32).toInt : ℝ) : EReal) = _
    simp

/-- The tied wavetables. -/
theorem tied_read (c : Dev nD) (hf : Fine (argP m c) (argW m c) (argA m c)) (n : Fin 64) (k : Fin 4097) :
    StableHlo.upto hostOps0 (V0 m c) 3 (Proc.devRef .tc main_call0_v2) (ix2 n k) = (tabOf (argW m c) k.val n : EReal) := by
  after_reads_at
  have h0 (x : Fin 4096) : StableHlo.upto hostOps0 (V0 m c) 2 (Proc.devRef .tc main_call0_v0) (ix2 n x) = V0 m c main_arg2 (ix2 n (⟨x.val, by omega⟩ : Fin 4097)) := by
    after_reads_at
  have h1 (x : Fin 1) : StableHlo.upto hostOps0 (V0 m c) 2 (Proc.devRef .tc main_call0_v1) (ix2 n x) = V0 m c main_arg2 (ix2 n (⟨x.val, by omega⟩ : Fin 4097)) := by
    after_reads_at
  split
  · rw [h0]
    exact hf.tab n _ _ (by show k.val = k.val % 4097 % 4096; omega)
  · rw [h1]
    exact hf.tab n _ _ (by show k.val - 4096 = k.val % 4097 % 4096; omega)

/-- The tied wavetables, read one operation later. -/
theorem tied_read' (c : Dev nD) : StableHlo.upto hostOps0 (V0 m c) 4 (Proc.devRef .tc main_call0_v2)
    = StableHlo.upto hostOps0 (V0 m c) 3 (Proc.devRef .tc main_call0_v2) := by
  after_reads_simp

/-- The first 129 columns of the tied wavetables. -/
theorem head_read (c : Dev nD) (n : Fin 64) (k : Fin 129) :
    StableHlo.upto hostOps0 (V0 m c) 4 (Proc.devRef .tc main_call0_v3) (ix2 n k)
    = StableHlo.upto hostOps0 (V0 m c) 3 (Proc.devRef .tc main_call0_v2) (ix2 n (⟨k.val, by omega⟩ : Fin 4097)) := by
  after_reads_at

/-- The tied wavetables followed by their first 129 columns are the repeated table. -/
theorem repeated_read (c : Dev nD) (hf : Fine (argP m c) (argW m c) (argA m c)) (q : ℕ) (hq : q < 4226) (n : Fin 64) :
    (if h : q < 4097 then (StableHlo.upto hostOps0 (V0 m c) 4 (Proc.devRef .tc main_call0_v2) (ix2 n (⟨q, h⟩ : Fin 4097)) : EReal)
      else StableHlo.upto hostOps0 (V0 m c) 4 (Proc.devRef .tc main_call0_v3) (ix2 n (⟨q - 4097, by omega⟩ : Fin 129)))
      = (tabOf (argW m c) q n : EReal) := by
  split
  · rw [tied_read']; exact tied_read m c hf n _
  · rw [head_read]
    refine (tied_read m c hf n _).trans ?_
    show ((tabOf (argW m c) (q - 4097) n : ℝ) : EReal) = _
    rw [← tabOf_periodic, Nat.sub_add_cancel (by omega)]

/-- The table's rows. -/
theorem base_read (c : Dev nD) (hf : Fine (argP m c) (argW m c) (argA m c)) (q : Fin 4225) (n : Fin 64) :
    StableHlo.upto hostOps0 (V0 m c) 15 (Proc.devRef .tc main_call0_v10) (ix2 q n) = (tabOf (argW m c) q.val n : EReal) := by
  after_reads_at
  exact repeated_read m c hf q.val (by omega) n

/-- What rounding the rows leaves is zero. -/
theorem rest_read (c : Dev nD) (hf : Fine (argP m c) (argW m c) (argA m c)) (q : Fin 4225) (n : Fin 64) :
    StableHlo.upto hostOps0 (V0 m c) 15 (Proc.devRef .tc main_call0_v13) (ix2 q n) = (0 : EReal) := by
  after_reads_at
  rw [repeated_read m c hf q.val (by omega) n, ← EReal.coe_sub, sub_self, EReal.coe_zero]

/-- The differences of consecutive rows. -/
theorem delta_read (c : Dev nD) (hf : Fine (argP m c) (argW m c) (argA m c)) (q : Fin 4225) (n : Fin 64) :
    StableHlo.upto hostOps0 (V0 m c) 15 (Proc.devRef .tc main_call0_v14) (ix2 q n)
      = ((tabOf (argW m c) (q.val + 1) n - tabOf (argW m c) q.val n : ℝ) : EReal) := by
  after_reads_at
  rw [repeated_read m c hf q.val (by omega) n, repeated_read m c hf (1 + q.val) (by omega) n, ← EReal.coe_sub,
    Nat.add_comm 1 q.val]

/-- An entry of the table entering the mixing region, by its column. -/
theorem table_at (c : Dev nD) (q : Fin 4240) (x : Fin 192) (hq : q.val < 4225) : V1 m c main_call0_v16 (ix2 q x) = if h_1 : x.val < 64 then
        StableHlo.upto hostOps0 (V0 m c) 15 (Proc.devRef .tc main_call0_v10) (ix2 (⟨q.val, hq⟩ : Fin 4225) (⟨x.val, h_1⟩ : Fin 64))
      else
        if h_2 : x.val - 64 < 64 then
          StableHlo.upto hostOps0 (V0 m c) 15 (Proc.devRef .tc main_call0_v13) (ix2 (⟨q.val, hq⟩ : Fin 4225) (⟨x.val - 64, h_2⟩ : Fin 64))
        else
          StableHlo.upto hostOps0 (V0 m c) 15 (Proc.devRef .tc main_call0_v14) (ix2 (⟨q.val, hq⟩ : Fin 4225) (⟨x.val - 64 - 64, by omega⟩ : Fin 64)) := by
  show StableHlo.after hostOps0 (V0 m c) (Proc.devRef .tc main_call0_v16) (ix2 q x) = _
  refine Eq.trans (b := ?_) ?_ ?_
  rotate_left
  · after_reads_at
    exact rfl
  · refine (dif_pos hq).trans ?_
    rfl

/-- THE TABLE entering the mixing region: rows, zeros, differences. -/
theorem table_read (c : Dev nD) (hf : Fine (argP m c) (argW m c) (argA m c)) (q : Fin 4240) (hq : q.val < 4225) (n : Fin 64) :
    V1 m c main_call0_v16 (ix2 q (⟨n.val, by omega⟩ : Fin 192)) = (tabOf (argW m c) q.val n : EReal)
    ∧ V1 m c main_call0_v16 (ix2 q (⟨64 + n.val, by omega⟩ : Fin 192)) = (0 : EReal)
    ∧ V1 m c main_call0_v16 (ix2 q (⟨128 + n.val, by omega⟩ : Fin 192))
      = ((tabOf (argW m c) (q.val + 1) n - tabOf (argW m c) q.val n : ℝ) : EReal) := by
  have key (x : Fin 192) := table_at m c q x hq
  have e0 : n.val < 64 := n.isLt
  refine ⟨?_, ?_, ?_⟩
  · rw [key, dif_pos e0]
    exact base_read m c hf _ n
  · rw [key, dif_neg (by show ¬ 64 + n.val < 64; omega), dif_pos (by show 64 + n.val - 64 < 64; omega)]
    exact rest_read m c hf _ _
  · rw [key, dif_neg (by show ¬ 128 + n.val < 64; omega), dif_neg (by show ¬ 128 + n.val - 64 < 64; omega)]
    refine (delta_read m c hf _ _).trans ?_
    have hn : 128 + n.val - 64 - 64 < 64 := by omega
    rw [show (⟨128 + n.val - 64 - 64, hn⟩ : Fin 64) = n from Fin.ext (by show 128 + n.val - 64 - 64 = n.val; omega)]

variable (outs : Outs (F := Ideal))

/-- The carries entering the mixing region. -/
theorem v24_read (c : Dev nD) (q : Fin 8) (n : Fin 4) :
    V3 m outs c main_call0_v24 (ix2 q n) = V2 m outs c main_call0_v23_1 (ix2 q (⟨n.val, by omega⟩ : Fin 128)) := by
  show StableHlo.after hostOps1 (V2 m outs c) (Proc.devRef .tc main_call0_v24) (ix2 q n) = _
  after_reads_at

/-- The running sums entering the mixing region. -/
theorem v25_read (c : Dev nD) (q : Fin 8) (n : Fin 57344) :
    V3 m outs c main_call0_v25 (ix3 q (0 : Fin 1) n) = V2 m outs c main_call0_v23_0 (ix2 q n) := by
  show StableHlo.after hostOps1 (V2 m outs c) (Proc.devRef .tc main_call0_v25) (ix3 q (0 : Fin 1) n) = _
  after_reads_at

/-- The amplitudes entering the mixing region. -/
theorem v26_read (c : Dev nD) (n : Fin 441000) :
    V3 m outs c main_call0_v26 (ix2 (0 : Fin 1) n) = V2 m outs c main_arg1 (ix3 (0 : Fin 1) n (0 : Fin 1)) := by
  show StableHlo.after hostOps1 (V2 m outs c) (Proc.devRef .tc main_call0_v26) (ix2 (0 : Fin 1) n) = _
  after_reads_at

/-- The result, reshaped from what the mixing region leaves. -/
theorem main_read (c : Dev nD) (n : Fin 441000) :
    V5 m outs c main_v0 (ix3 (0 : Fin 1) n (0 : Fin 1)) = V4 m outs c main_call0_v27 (ix2 (0 : Fin 1) n) := by
  show StableHlo.after hostOps2 (V4 m outs c) (Proc.devRef .tc main_v0) (ix3 (0 : Fin 1) n (0 : Fin 1)) = _
  after_reads_at

end Cert.Proof.Kernel

end
-- ==== Proof.Kernel.Value.lean ====
module

public import proofs.«01_k».proof.Proof.Kernel.Host
public import proofs.«01_k».proof.Proof.Mix.Region
public import proofs.«01_k».proof.Proof.Scan.Rows

@[expose] public section

set_option maxRecDepth 16384

noncomputable section

namespace Cert.Proof.Kernel

open Cert.KernelIdeal Cert.KernelIdeal.Gen
open Idealize.ShloMosaic Idealize.ShloMosaic.TcCoe Idealize.SL.Sem
open Idealize.ShloMosaic.Pipeline (Dat afterRegion)
open Cert.Proof.Scan (dat0 before rowSum carries)
open Cert.Proof.Mix (dat1 Data posn InRange)

/-! What the program computes, from the launch memory. -/

section Sums

variable (f : ℕ → ℝ)

/-- The rows before row `r` hold the first `r * 57344` terms. -/
theorem rows_sum (r : ℕ) : ∑ q ∈ Finset.range r, ∑ k ∈ Finset.range 57344, f (q * 57344 + k) = ∑ i ∈ Finset.range (r * 57344), f i := by
  induction r with
  | zero => simp
  | succ r ih => rw [Finset.sum_range_succ, ih, Nat.succ_mul, Finset.sum_range_add]

/-- The row carry is the sum of the terms of the rows before. -/
theorem before_sum (r : Fin 8) :
    before (fun q => rowSum (fun (q : Fin 8) k => f (q.val * 57344 + k)) q 57344) r = ∑ i ∈ Finset.range (r.val * 57344), f i := by
  rw [← rows_sum]
  unfold before rowSum
  rw [Fin.sum_univ_eq_sum_range (fun q => if q < r.val then ∑ k ∈ Finset.range 57344, f (q * 57344 + k) else 0) 8, ← Finset.sum_filter]
  congr 1
  ext q
  simp only [Finset.mem_filter, Finset.mem_range]
  omega

/-- The row carry and the running sum of the row make the running sum of all terms. -/
theorem sums_join (r k : ℕ) : ∑ i ∈ Finset.range (r * 57344), f i + ∑ j ∈ Finset.range (k + 1), f (r * 57344 + j)
    = ∑ i ∈ Finset.range (r * 57344 + k + 1), f i := by
  rw [Nat.add_assoc]
  exact (Finset.sum_range_add f (r * 57344) (k + 1)).symm

end Sums

variable (m : (ℓ : Loc nD τ sig) → Buf (Elt Ideal) ℓ)

/-- The real numbers the mixing region's arrays hold. -/
def data (c : Dev nD) : Data where
  E r := ∑ i ∈ Finset.range (r * 57344), inc (argP m c) i
  Z := inc (argP m c) 0
  R r k := ∑ j ∈ Finset.range (k + 1), inc (argP m c) (r * 57344 + j)
  tab := tabOf (argW m c)
  a := attOf (argA m c)
  amp := ampOf (argQ m c)

/-- The position of sample `s` is the running sum of the increments less the first. -/
theorem posn_data (c : Dev nD) (s : ℕ) : posn (data m c).E (data m c).Z (data m c).R s = position (argP m c) s := by
  unfold posn position
  show ∑ i ∈ Finset.range (s / 57344 * 57344), inc (argP m c) i
    + ∑ j ∈ Finset.range (s % 57344 + 1), inc (argP m c) (s / 57344 * 57344 + j) - inc (argP m c) 0 = _
  rw [sums_join, Nat.div_add_mod' s 57344]

/-- The oscillator's value is what the mixing region computes. -/
theorem out_data (c : Dev nD) (s : ℕ) : (data m c).out s = oscillator (argP m c) (argQ m c) (argW m c) (argA m c) s := by
  unfold Data.out oscillator
  rw [posn_data]
  rfl

/-- The positions are in the kernel's range. -/
theorem range_data (c : Dev nD) (hf : Fine (argP m c) (argW m c) (argA m c)) :
    InRange (data m c).E (data m c).Z (data m c).R where
  lo r k hr hk := by
    show 0 ≤ ∑ i ∈ Finset.range (r * 57344), inc (argP m c) i + ∑ j ∈ Finset.range (k + 1), inc (argP m c) (r * 57344 + j) - inc (argP m c) 0
    rw [sums_join, sub_nonneg]
    exact Finset.single_le_sum (f := inc (argP m c)) (fun i _ => (inc_bounds hf i).1) (Finset.mem_range.mpr (Nat.succ_pos _))
  hi r k hr hk := by
    show ∑ i ∈ Finset.range (r * 57344), inc (argP m c) i + ∑ j ∈ Finset.range (k + 1), inc (argP m c) (r * 57344 + j) - inc (argP m c) 0 ≤ 45000
    rw [sums_join]
    have h0 := (inc_bounds hf 0).1
    have h1 := (sum_inc_bounds hf 0 (r * 57344 + k + 1)).2
    simp only [Nat.zero_add] at h1
    have h2 : ((r * 57344 + k + 1 : ℕ) : ℝ) ≤ 458752 := by exact_mod_cast (by omega : r * 57344 + k + 1 ≤ 458752)
    linarith
  mono r k k' hr hk hk' := by
    show ∑ j ∈ Finset.range (k + 1), inc (argP m c) (r * 57344 + j) ≤ ∑ j ∈ Finset.range (k' + 1), inc (argP m c) (r * 57344 + j)
    obtain ⟨d, rfl⟩ := Nat.exists_eq_add_of_le hk
    rw [Nat.add_right_comm, Finset.sum_range_add _ (k + 1) d]
    simp only [← Nat.add_assoc]
    have := (sum_inc_bounds hf (r * 57344 + k + 1) d).1
    linarith
  adv r k k' hr hk hd hk' := by
    show ∑ j ∈ Finset.range (k' + 1), inc (argP m c) (r * 57344 + j) ≤ ∑ j ∈ Finset.range (k + 1), inc (argP m c) (r * 57344 + j) + 96
    obtain ⟨d, rfl⟩ := Nat.exists_eq_add_of_le hk
    rw [Nat.add_right_comm, Finset.sum_range_add _ (k + 1) d]
    simp only [← Nat.add_assoc]
    have h1 := (sum_inc_bounds hf (r * 57344 + k + 1) d).2
    have h2 : (d : ℝ) ≤ 1023 := by exact_mod_cast (by omega : d ≤ 1023)
    linarith

/-- The carries the scan leaves. -/
theorem carry_data (c : Dev nD) (r : Fin 8) (k : Fin 4) : V3 m (outsScan m (grid m)) c main_call0_v24 (ix2 r k)
    = carries (grid m c) (ix2 r (⟨k.val, by omega⟩ : Fin 128)) := by
  rw [v24_read]
  refine congrFun (?_ : V2 m (outsScan m (grid m)) c main_call0_v23_1 = carries (grid m c)) _
  refine ((after_scan m (grid m) (data m) c main_call0_v23_1).symm.trans
    (Pipeline.afterRegion_arr (dat0 (V1 m) (grid m) c) (V1 m c) winFacts0.arr_inj (2 : Fin 3))).trans ?_
  exact Scan.carries_array (V1 m) (grid m) c

/-- The running sums the scan leaves. -/
theorem sums_data (c : Dev nD) (r : Fin 8) (k : Fin 57344) : V3 m (outsScan m (grid m)) c main_call0_v25 (ix3 r (0 : Fin 1) k)
    = (rowSum (grid m c) r (k.val + 1) : EReal) := by
  rw [v25_read]
  refine (congrFun (?_ : V2 m (outsScan m (grid m)) c main_call0_v23_0
    = fun i : S8x57344.Idx => ((rowSum (grid m c) (i 0) ((i 1).val + 1) : ℝ) : EReal)) _).trans rfl
  refine ((after_scan m (grid m) (data m) c main_call0_v23_0).symm.trans
    (Pipeline.afterRegion_arr (dat0 (V1 m) (grid m) c) (V1 m c) winFacts0.arr_inj (1 : Fin 3))).trans ?_
  exact Scan.sums_array (V1 m) (grid m) c

/-- The first two stretches and the scan leave an argument as launched. -/
theorem arg_kept (c : Dev nD) (r : Ref sig .tc) (h0 : r ∉ hostOps0_W) (h1 : r ∉ ([main_call0_v23_0, main_call0_v23_1] : List (Ref sig .tc)))  :
    V2 m (outsScan m (grid m)) c r = m ((c : Thread nD τ).loc r) :=
  (V2_of m _ c r h1).trans (V1_of m c r h0)

/-- The arrays entering the mixing region hold the data. -/
theorem entry_data (c : Dev nD) (hf : Fine (argP m c) (argW m c) (argA m c)) :
    (data m c).Entry (V3 m (outsScan m (grid m)) c) where
  range := range_data m c hf
  periodic k n := tabOf_periodic k n
  carry r := by
    refine ⟨?_, ?_, ?_⟩
    · rw [carry_data]
      refine (Scan.rows_hi _ _ r).trans ?_
      exact congrArg _ (before_sum (inc (argP m c)) r)
    · rw [carry_data]
      exact Scan.rows_lo _ _ r
    · rw [carry_data]
      refine (Scan.rows_first _ _ r).trans ?_
      show ((inc (argP m c) (0 * 57344 + 0) : ℝ) : EReal) = _
      rfl
  sums r k := sums_data m c r k
  ampl s := by
    rw [v26_read, arg_kept m c main_arg1 (by decide) (by decide)]
    show argQ m c _ = ampOf (argQ m c) s.val
    rw [ampOf, dif_pos s.isLt]
  att n s := by
    rw [V3_of m _ c main_arg3 (by decide), arg_kept m c main_arg3 (by decide) (by decide)]
    show argA m c _ = (attOf (argA m c) n s.val : EReal)
    rw [attOf, dif_pos s.isLt]
    exact hf.att n s
  table q hq n := by
    rw [V3_of m _ c main_call0_v16 (by decide), V2_of m _ c main_call0_v16 (by decide)]
    exact table_read m c hf q hq n

/-- The result's array. -/
theorem main_value (c : Dev nD) : V5 m (outs m (grid m) (data m)) c main_v0
    = fun i : S1x441000x1.Idx => oscillator (argP m c) (argQ m c) (argW m c) (argA m c) (i 1).val := by
  funext i
  obtain ⟨a, s, b, rfl⟩ : ∃ (a : Fin 1) (s : Fin 441000) (b : Fin 1), i = ix3 a s b := ⟨i 0, i 1, i 2, eq_ix3 i⟩
  obtain rfl : a = 0 := Subsingleton.elim (α := Fin 1) _ _
  obtain rfl : b = 0 := Subsingleton.elim (α := Fin 1) _ _
  rw [main_read]
  refine (congrFun (?_ : V4 m (outs m (grid m) (data m)) c main_call0_v27 = fun i : S1x441000.Idx => (data m c).out (i 1).val) _).trans
    (out_data m c s.val)
  refine ((after_mix m (grid m) (data m) c main_call0_v27).symm.trans
    (Pipeline.afterRegion_arr (dat1 (V3 m (outsScan m (grid m))) (data m) c) _ winFacts1.arr_inj (5 : Fin 6))).trans ?_
  exact Mix.out_array (V3 m (outsScan m (grid m))) (data m) c

/-- THE KERNEL'S RUN: the result is the oscillator's value at every sample, the arguments are as launched, every
    counter is zero. -/
theorem run_value (ρ : Dev nD → PrngReg) (hf : ∀ c, Fine (argP m c) (argW m c) (argA m c)) :
    θ_run defs (onTc (τ := τ) (main (F := Ideal))) ⟨m, fun _ => 0, ρ⟩ (fun r => (∀ c : Dev nD,
      r.2.mem ((c.tc : Thread nD τ).loc main_v0)
        = (fun i : S1x441000x1.Idx => oscillator (argP m c) (argQ m c) (argW m c) (argA m c) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => ⟨(h.1 c).1.trans (main_value m c), (h.1 c).2⟩, h.2⟩)
    (run_main m (grid m) (data m) ρ (fun c => incr_read m c (hf c)) fun c => entry_data m c (hf c))

end Cert.Proof.Kernel

end
-- ==== Proof.Reference.Fold.lean ====
module

public import proofs.«01_k».proof.Proof.Math.Inputs
public import Idealize.ShloMosaic.Lib.Pointwise
public import Idealize.ShloMosaic.Lib.IdealHost

@[expose] public section

noncomputable section

/-!
# The reference's whole-array operations, read at an index

The running sum, the column maximum, the column sum, the row-wise conjunction and the gather of columns, each at arbitrary
extents.
-/

namespace Cert.Proof.Reference

open Idealize.ShloMosaic

/-- The greatest entry of a column, as a fold over the rows. -/
theorem col_max {N T : ℕ} (A : FVec Ideal ⟨2, ![N, T]⟩ .f32) (b : FVec Ideal ⟨0, ![]⟩ .f32)
    (h : (⟨2, ![N, T]⟩ : Shape).ReducesTo [0] ⟨1, ![T]⟩) (hu : 0 < (⟨0, ![]⟩ : Shape).numel) (s : Fin T) :
    Host.reduce FloatOps.maximumf A b h hu (ix1 s)
      = (Finset.univ : Finset (Fin N)).fold max (b (Shape.Idx.first hu)) (fun n => A (ix2 n s)) := by
  refine (Host.reduce_eq_fold (α := EReal) max A b h hu (ix1 s)).trans ?_
  rw [Shape.ReducesTo.fold_fiber_r2_a0]; rfl

/-- The sum of a column. -/
theorem col_sum {N T : ℕ} (A : FVec Ideal ⟨2, ![N, T]⟩ .f32) (b : FVec Ideal ⟨0, ![]⟩ .f32)
    (h : (⟨2, ![N, T]⟩ : Shape).ReducesTo [0] ⟨1, ![T]⟩) (hu : 0 < (⟨0, ![]⟩ : Shape).numel) (s : Fin T) :
    Host.reduceAdd A b h hu (ix1 s) = (b (Shape.Idx.first hu) + ∑ n : Fin N, A (ix2 n s) : EReal) := by
  show Ideal.hostReduceAdd h A (b (Shape.Idx.first hu)) (ix1 s) = _
  rw [Ideal.hostReduceAdd_r2_a0]; rfl

/-- The conjunction along a row of width one. -/
theorem row_and {T : ℕ} (B : IVec ⟨2, ![T, 1]⟩ 1) (b : IVec ⟨0, ![]⟩ 1)
    (h : (⟨2, ![T, 1]⟩ : Shape).ReducesTo [1] ⟨1, ![T]⟩) (hu : 0 < (⟨0, ![]⟩ : Shape).numel) (s : Fin T) :
    Host.reduce IntOp.andi B b h hu (ix1 s) = IntOp.andi (B (ix2 s 0)) (b (Shape.Idx.first hu)) := by
  rw [Host.reduce_eq_fold, Shape.ReducesTo.fold_fiber_r2_a1]
  simp

/-- Adding up a list of real numbers, one at a time. -/
theorem foldl_real {ι : Type} (l : List ι) (g : ι → EReal) (G : ι → ℝ) (hg : ∀ a ∈ l, g a = (G a : EReal)) (v : EReal) (z : ℝ)
    (hv : v = (z : EReal)) : l.foldl (fun r a => r + g a) v = ((z + (l.map G).sum : ℝ) : EReal) := by
  induction l generalizing v z with
  | nil => simpa using hv
  | cons a l ih =>
    rw [List.foldl_cons, ih (fun b hb => hg b (List.mem_cons_of_mem _ hb)) _ (z + G a)
      (by rw [hv, hg a List.mem_cons_self, EReal.coe_add]), List.map_cons, List.sum_cons, add_assoc]

/-- A window that reaches `M` entries back, of which those before the array's start count zero, holds the prefix. -/
theorem sum_window (f : ℕ → ℝ) (M j : ℕ) (hj : j < M + 1) :
    ∑ w ∈ Finset.range (M + 1), (if M ≤ j + w then f (j + w - M) else 0) = ∑ i ∈ Finset.range (j + 1), f i := by
  obtain ⟨q, rfl⟩ : ∃ q, M = q + j := ⟨M - j, by omega⟩
  rw [show q + j + 1 = q + (j + 1) by omega,
    Finset.sum_range_add (fun w => if q + j ≤ j + w then f (j + w - (q + j)) else 0) q (j + 1)]
  rw [Finset.sum_eq_zero (fun w hw => if_neg (by have := Finset.mem_range.mp hw; omega)), zero_add]
  refine Finset.sum_congr rfl fun x _ => ?_
  rw [if_pos (by omega)]; congr 1; omega

/-- The running sum of an array of real numbers. -/
theorem running_sum {N M : ℕ} (hN : M + 1 = N) (x : FVec Ideal ⟨1, ![N]⟩ .f32) (f : ℕ → ℝ) (hx : ∀ i : Fin N, x (ix1 i) = (f i.val : EReal))
    (b : FVec Ideal ⟨0, ![]⟩ .f32) (hu : 0 < (⟨0, ![]⟩ : Shape).numel) (hb : b (Shape.Idx.first hu) = (0 : EReal))
    (h : (⟨1, ![N]⟩ : Shape).ReduceWindows (![N] : Fin 1 → ℕ) ![1] ![M] ![0] ⟨1, ![N]⟩) (j : Fin N) :
    Host.reduceWindowAdd ![N] ![1] ![M] ![0] x b h hu (ix1 j) = ((∑ i ∈ Finset.range (j.val + 1), f i : ℝ) : EReal) := by
  subst hN
  have hj := j.isLt
  have hnum : (⟨1, ![M + 1]⟩ : Shape).numel = M + 1 := Shape.numel_rank1 _
  show Ideal.hostReduceWindowAdd ![M + 1] ![1] ![M] ![0] h x (b (Shape.Idx.first hu)) (ix1 j) = _
  unfold Ideal.hostReduceWindowAdd Host.reduceWindow
  refine (foldl_real _ _ (fun n => if M ≤ j.val + n.val then f (j.val + n.val - M) else 0) (fun n _ => ?_) _ 0 hb).trans ?_
  · have hw : ((⟨1, ![M + 1]⟩ : Shape).rowMajor.symm n 0).val = n.val := by
      rw [← Shape.rowMajor_val_one, Equiv.apply_symm_apply]
    have hn : n.val < M + 1 := n.isLt.trans_eq hnum
    dsimp only
    split
    · next hin =>
      have h0 := hin 0
      change M ≤ j.val * 1 + ((⟨1, ![M + 1]⟩ : Shape).rowMajor.symm n 0).val
        ∧ j.val * 1 + ((⟨1, ![M + 1]⟩ : Shape).rowMajor.symm n 0).val - M < M + 1 at h0
      rw [hw] at h0
      rw [if_pos (by omega)]
      refine (congrArg x (funext fun a => Fin.ext ?_)).trans (hx ⟨j.val + n.val - M, by omega⟩)
      match a with
      | ⟨0, _⟩ =>
        show j.val * 1 + ((⟨1, ![M + 1]⟩ : Shape).rowMajor.symm n 0).val - M = j.val + n.val - M
        rw [hw, Nat.mul_one]
    · next hin =>
      rw [if_neg fun hle => hin fun a => by
        match a with
        | ⟨0, _⟩ =>
          show M ≤ j.val * 1 + ((⟨1, ![M + 1]⟩ : Shape).rowMajor.symm n 0).val
            ∧ j.val * 1 + ((⟨1, ![M + 1]⟩ : Shape).rowMajor.symm n 0).val - M < M + 1
          rw [hw]
          omega]
      exact hb
  · rw [zero_add, ← Fin.sum_univ_def, ← Finset.sum_range (fun w => if M ≤ j.val + w then f (j.val + w - M) else 0)]
    rw [show (Shape.numel ⟨1, ![M + 1]⟩) = M + 1 from hnum, sum_window f M j.val (by omega)]

/-- The dimension numbers of a gather of whole columns of a `[B, N]` table at `T` column numbers. -/
abbrev colsDims (B N T : ℕ) (wf : GatherDims.WF ⟨2, ![B, N]⟩ ⟨2, ![T, 1]⟩ ⟨2, ![B, T]⟩ [0] [1] [] [1] [] 1 ![B, 1]) :
    GatherDims ⟨2, ![B, N]⟩ ⟨2, ![T, 1]⟩ ⟨2, ![B, T]⟩ where
  offsetDims := [0]
  collapsedSliceDims := [1]
  operandBatchingDims := []
  startIndicesBatchingDims := []
  startIndexMap := [1]
  indexVectorDim := 1
  sliceSizes := ![B, 1]
  wf := wf

/-- The gather at row `n` and place `s`: the table's entry in row `n` of the column whose number is held at `s`. -/
theorem gather_cols {α : Type} {B N T : ℕ} (wf : GatherDims.WF ⟨2, ![B, N]⟩ ⟨2, ![T, 1]⟩ ⟨2, ![B, T]⟩ [0] [1] [] [1] [] 1 ![B, 1])
    (x : (⟨2, ![B, N]⟩ : Shape).Idx → α) (idx : IVec ⟨2, ![T, 1]⟩ 32) (n : Fin B) (s : Fin T) (k : Fin N)
    (hk : idx (ix2 s 0) = BitVec.ofNat 32 k.val) (hN : N < 2 ^ 31) :
    Host.gather (colsDims B N T wf) x idx (ix2 n s) = x (ix2 n k) := by
  unfold Host.gather
  refine congrArg x (funext fun a => Fin.ext ?_)
  show (colsDims B N T wf).start (ix2 n s) idx a + (colsDims B N T wf).batchCoord (ix2 n s) a
      + (colsDims B N T wf).offCoord (ix2 n s) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (show (0 : Fin 2) ∉ (colsDims B N T wf).startIndexMap by simp),
      dif_pos (show (0 : Fin 2) ∈ (colsDims B N T wf).sKept from (GatherDims.mem_sKept _ _).mpr ⟨by simp, by simp⟩), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ (colsDims B N T wf).startIndexMap from List.mem_singleton.mpr rfl)]
    have hsi : (colsDims B N T wf).siIdx (ix2 n s) ⟨List.idxOf (1 : Fin 2) (colsDims B N T wf).startIndexMap,
        List.idxOf_lt_length_iff.2 (List.mem_singleton.mpr rfl)⟩ = ix2 s 0 := by
      funext b; refine Fin.ext ?_
      match b with
      | ⟨0, _⟩ => rfl
      | ⟨1, _⟩ => rfl
    have hlt := k.isLt
    rw [hsi, hk]
    have e : (BitVec.ofNat 32 k.val).toInt = (k.val : ℤ) := by
      rw [BitVec.toInt_eq_toNat_of_lt (by rw [BitVec.toNat_ofNat]; omega), BitVec.toNat_ofNat]; congr 1; omega
    rw [e]
    show min ((k.val : ℤ)).toNat (N - 1) = k.val
    omega

end Cert.Proof.Reference

end
-- ==== Proof.Reference.Read.lean ====
module

public import proofs.«01_k».proof.ReferenceIdeal
public import proofs.«01_k».proof.Proof.Math.Inputs
public import proofs.«01_k».proof.Proof.Gen.ReferenceIdeal.Run
public import Idealize.ShloMosaic.Lib.Pointwise

@[expose] public section

set_option maxRecDepth 16384

noncomputable section

/-!
# The reference's elementwise operations, read at an index

Each of the reference's elementwise expressions, over arbitrary operands, at one sample.
-/

namespace Cert.Proof.Reference

open Cert.ReferenceIdeal Cert.ReferenceIdeal.Gen
open Idealize.ShloMosaic Idealize.ShloMosaic.TcCoe

/-- The increment of one sample. -/
theorem read_inc (x : FVec Ideal S441000 .f32) (s : Fin 441000) :
    mulf (Host.divf x (broadcastInDim S441000 ![] bcast_S_S441000 (constant S_ FTy.f32 1194083328#32)))
      (broadcastInDim S441000 ![] bcast_S_S441000 (constant S_ FTy.f32 1166018560#32)) (ix1 s)
    = Ideal.div (x (ix1 s)) (Ideal.ofBits FTy.f32 1194083328#32) * Ideal.ofBits FTy.f32 1166018560#32 := by
  pointwise

/-- The truncated remainder at one sample. -/
theorem read_rem (x C : FVec Ideal S441000 .f32) (z : FVec Ideal S_ .f32) (s : Fin 441000) :
    Host.remf (subf C (broadcastInDim S441000 ![] bcast_S_S441000
        (shapeCast S_ (extractStridedSlice S1 ![0] x slices_S441000_S1_0) shapeCasts_S1_S_)))
      (broadcastInDim S441000 ![] bcast_S_S441000 z) (ix1 s)
    = Ideal.remf (C (ix1 s) - x (ix1 0)) (z ix0) := by
  pointwise

/-- The remainder brought to the divisor's sign, at one sample. -/
theorem read_wrap (r : FVec Ideal S441000 .f32) (z : FVec Ideal S_ .f32) (s : Fin 441000) (h : (0 : EReal) ≤ r (ix1 s))
    (hz : (0 : EReal) ≤ z ix0) :
    select (andi (cmpi .ne (cmpf .olt r (broadcastInDim S441000 ![] bcast_S_S441000 (constant S_ .f32 0x00000000#32)))
        (broadcastInDim S441000 ![] bcast_S_S441000 (cmpf .olt z (constant S_ .f32 0x00000000#32))))
        (cmpf .une r (broadcastInDim S441000 ![] bcast_S_S441000 (constant S_ .f32 0x00000000#32))))
      (addf r (broadcastInDim S441000 ![] bcast_S_S441000 z)) r (ix1 s) = r (ix1 s) := by
  pointwise
  rw [decide_eq_false (not_lt.mpr h), decide_eq_false (not_lt.mpr hz)]
  simp [IntOp.cmpi, IntOp.andi, Scalar.select]

/-- The integer part at one sample, as a number. -/
theorem read_floor (x : FVec Ideal S441000 .f32) (s : Fin 441000) (y : ℝ) (h : x (ix1 s) = (y : EReal)) :
    Host.floor x (ix1 s) = ((⌊y⌋ : ℝ) : EReal) := by
  show Ideal.liftRound Int.floor (x (ix1 s)) = _
  rw [h]; rfl

/-- The least integer above at one sample, as a number. -/
theorem read_ceil (x : FVec Ideal S441000 .f32) (s : Fin 441000) (y : ℝ) (h : x (ix1 s) = (y : EReal)) :
    Host.ceil x (ix1 s) = ((⌈y⌉ : ℝ) : EReal) := by
  show Ideal.liftRound Int.ceil (x (ix1 s)) = _
  rw [h]; rfl

/-- The index below, for the gather, at one sample. -/
theorem read_index (x : IVec S441000 32) (s : Fin 441000) :
    broadcastInDim S441000x1 ![0] bcast_S441000_S441000x1_0
      (select (cmpi .slt x (broadcastInDim S441000 ![] bcast_S_S441000 (constantI S_ 32 0#32)))
        (addi x (broadcastInDim S441000 ![] bcast_S_S441000 (constantI S_ 32 4097#32))) x) (ix2 s 0)
    = Scalar.select (IntOp.cmpi .slt (x (ix1 s)) 0#32) (IntOp.addi (x (ix1 s)) 4097#32) (x (ix1 s)) := by
  pointwise

/-- The integer remainder at one sample. -/
theorem read_remi (x : IVec S441000 32) (z : IVec S_ 32) (s : Fin 441000) :
    Host.remsi x (broadcastInDim S441000 ![] bcast_S_S441000 z) (ix1 s) = IntOp.remsi ArithUnit.host (x (ix1 s)) (z ix0) := by
  pointwise

/-- The integer remainder brought to the divisor's sign, at one sample. -/
theorem read_wrapi (r : IVec S441000 32) (z : IVec S_ 32) (s : Fin 441000) :
    select (andi (cmpi .ne (cmpi .slt r (broadcastInDim S441000 ![] bcast_S_S441000 (constantI S_ 32 0#32)))
        (broadcastInDim S441000 ![] bcast_S_S441000 (cmpi .slt z (constantI S_ 32 0#32))))
        (cmpi .ne r (broadcastInDim S441000 ![] bcast_S_S441000 (constantI S_ 32 0#32))))
      (addi r (broadcastInDim S441000 ![] bcast_S_S441000 z)) r (ix1 s)
    = Scalar.select (IntOp.andi (IntOp.cmpi .ne (IntOp.cmpi .slt (r (ix1 s)) 0#32) (IntOp.cmpi .slt (z ix0) 0#32))
        (IntOp.cmpi .ne (r (ix1 s)) 0#32)) (IntOp.addi (r (ix1 s)) (z ix0)) (r (ix1 s)) := by
  pointwise

/-- The bit saying that an index lies in the table. -/
theorem read_within (x : IVec S441000x1 32) (s : Fin 441000) :
    andi (cmpi .sge x (broadcastInDim S441000x1 ![] bcast_S_S441000x1 (constantI S_ 32 0#32)))
      (cmpi .sle x (broadcastInDim S441000x1 ![0, 1] bcast_S1x1_S441000x1_0_1
        (broadcastInDim S1x1 ![1] bcast_S1_S1x1_1 (constantI S1 32 4096#32)))) (ix2 s 0)
    = IntOp.andi (IntOp.cmpi .sge (x (ix2 s 0)) 0#32) (IntOp.cmpi .sle (x (ix2 s 0)) 4096#32) := by
  pointwise

/-- A choice by sample between two arrays, at one entry. -/
theorem read_mask (b : IVec S441000 1) (x y : FVec Ideal S64x441000 .f32) (n : Fin 64) (s : Fin 441000) (h : b (ix1 s) = 1#1) :
    select (broadcastInDim S64x441000 ![1] bcast_S441000_S64x441000_1 b) x y (ix2 n s) = x (ix2 n s) := by
  pointwise
  rw [h]; rfl

/-- The exponential of the attention less the column's maximum, at one entry. -/
theorem read_exp (A : FVec Ideal S64x441000 .f32) (M : FVec Ideal S441000 .f32) (n : Fin 64) (s : Fin 441000) :
    Host.exp (subf A (broadcastInDim S64x441000 ![0, 1] bcast_S1x441000_S64x441000_0_1
        (broadcastInDim S1x441000 ![1] bcast_S441000_S1x441000_1
          (maximumf (broadcastInDim S441000 ![] bcast_S_S441000 (constant S_ .f32 0xFF800000#32)) M)))) (ix2 n s)
    = Ideal.exp (A (ix2 n s) - max (Ideal.ofBits FTy.f32 4286578688#32) (M (ix1 s))) := by
  pointwise

/-- The interpolated table, weighted, at one entry. -/
theorem read_product (lo hi E : FVec Ideal S64x441000 .f32) (x f D : FVec Ideal S441000 .f32) (n : Fin 64) (s : Fin 441000) :
    mulf (addf lo (mulf (broadcastInDim S64x441000 ![0, 1] bcast_S1x441000_S64x441000_0_1
        (broadcastInDim S1x441000 ![1] bcast_S441000_S1x441000_1 (subf x f))) (subf hi lo)))
      (Host.divf E (broadcastInDim S64x441000 ![0, 1] bcast_S1x441000_S64x441000_0_1
        (broadcastInDim S1x441000 ![1] bcast_S441000_S1x441000_1 D))) (ix2 n s)
    = (lo (ix2 n s) + (x (ix1 s) - f (ix1 s)) * (hi (ix2 n s) - lo (ix2 n s))) * Ideal.div (E (ix2 n s)) (D (ix1 s)) := by
  pointwise

/-- The result at one sample. -/
theorem read_result (R : FVec Ideal S441000 .f32) (Q : FVec Ideal S1x441000x1 .f32) (a : Fin 1) (s : Fin 441000) (b : Fin 1) :
    mulf (broadcastInDim S1x441000x1 ![1] bcast_S441000_S1x441000x1_1 R) Q (ix3 a s b) = (R (ix1 s) * Q (ix3 a s b) : EReal) := by
  pointwise

/-- The tied wavetables at one entry. -/
theorem read_tied (W : FVec Ideal S64x4097 .f32) (n : Fin 64) (k : Fin 4097) :
    concatenate S64x4097 1 [⟨S64x4096, (extractStridedSlice S64x4096 ![0, 0] W slices_S64x4097_S64x4096_0_0)⟩,
      ⟨S64x1, (extractStridedSlice S64x1 ![0, 0] W slices_S64x4097_S64x1_0_0)⟩] concatenates_S64x4096_S64x1_S64x4097_d1 (ix2 n k)
    = W (ix2 n (⟨k.val % 4096, by omega⟩ : Fin 4097)) := by
  pointwise
  split
  · refine congrArg W (congrArg (ix2 n) (Fin.ext ?_)); show k.val = k.val % 4096; omega
  · refine congrArg W (congrArg (ix2 n) (Fin.ext ?_)); show k.val - 4096 = k.val % 4096; omega

end Cert.Proof.Reference

end
-- ==== Proof.Reference.Index.lean ====
module

public import proofs.«01_k».proof.Proof.Reference.Fold
public import proofs.«01_k».proof.Proof.Reference.Read
public import proofs.«01_k».proof.Proof.Math.Words

@[expose] public section

set_option maxRecDepth 16384

noncomputable section

/-!
# The reference's table position and its two column numbers

At a sample the reference holds the wrapped position as a real number, its integer part and its ceiling as words, and
the two column numbers of the gathers.
-/

namespace Cert.Proof.Reference

open Cert.ReferenceIdeal Cert.ReferenceIdeal.Gen Cert.ReferenceIdeal.Value
open Idealize.ShloMosaic Idealize.ShloMosaic.TcCoe

variable (V : Valuation τ sig (Elt Ideal))

/-- The pitches among a valuation's arguments. -/
abbrev argP : Pitches := V (Proc.devRef .tc main_arg0)
/-- The amplitudes among a valuation's arguments. -/
abbrev argQ : Amps := V (Proc.devRef .tc main_arg1)
/-- The wavetables among a valuation's arguments. -/
abbrev argW : Tables := V (Proc.devRef .tc main_arg2)
/-- The attention among a valuation's arguments. -/
abbrev argA : Attn := V (Proc.devRef .tc main_arg3)

variable {V}

/-- The increments. -/
theorem inc_val (hf : Fine (argP V) (argW V) (argA V)) (s : Fin 441000) : res_main_v6 V (ix1 s) = (inc (argP V) s.val : EReal) := by
  refine (read_inc (argP V) s).trans ?_
  obtain ⟨x, e, -⟩ := hf.pitch s
  unfold inc
  rw [dif_pos s.isLt, show (1194083328#32 : BitVec 32) = 0x472C4400#32 from rfl, word_rate, word_len, e, EReal.toReal_coe,
    Ideal.div_coe (by norm_num), ← EReal.coe_mul, ← EReal.coe_mul, mul_one_div]

/-- The table position is never negative. -/
theorem position_nonneg (hf : Fine (argP V) (argW V) (argA V)) (s : ℕ) : 0 ≤ position (argP V) s := by
  unfold position
  rw [Finset.sum_range_succ', add_sub_cancel_right]
  exact Finset.sum_nonneg fun i _ => (inc_bounds hf _).1

/-- The remainder of a nonnegative number by the table's length. -/
theorem remf_len (x : ℝ) (h : 0 ≤ x) : Ideal.remf (x : EReal) ((4097 : ℝ) : EReal) = (modLen x : EReal) := by
  show (if (4097 : ℝ) = 0 then (⊥ : EReal) else ((x - 4097 * (Ideal.truncInt (x / 4097) : ℝ) : ℝ) : EReal)) = _
  rw [if_neg (by norm_num), Ideal.truncInt, if_pos (by positivity)]; rfl

/-- The table's length as a number. -/
theorem len_val : res_main_call1_v0 V ix0 = ((4097 : ℝ) : EReal) := by
  show (((4097#32 : BitVec 32).toInt : ℝ) : EReal) = _
  rw [show (4097#32 : BitVec 32).toInt = 4097 from rfl]; norm_num

/-- The remainder of the table position. -/
theorem rem_val (hf : Fine (argP V) (argW V) (argA V)) (s : Fin 441000) :
    res_main_call1_v2 V (ix1 s) = (modLen (position (argP V) s.val) : EReal) := by
  refine (read_rem (res_main_v6 V) _ (res_main_call1_v0 V) s).trans ?_
  rw [running_sum (by norm_num) (res_main_v6 V) (inc (argP V)) (inc_val hf) _ _ (by
      show Ideal.ofBits .f32 0x00000000#32 = 0
      simp [Ideal.ofBits, Ideal.ieee]), inc_val hf, len_val, ← EReal.coe_sub]
  exact remf_len _ (position_nonneg hf s.val)

/-- The wrapped table position. -/
theorem phase_val (hf : Fine (argP V) (argW V) (argA V)) (s : Fin 441000) :
    res_main_v12 V (ix1 s) = (modLen (position (argP V) s.val) : EReal) := by
  refine (read_wrap (res_main_call1_v2 V) (res_main_call1_v0 V) s ?_ ?_).trans (rem_val hf s)
  · rw [rem_val hf]; exact_mod_cast modLen_nonneg _
  · rw [len_val]; exact_mod_cast (by norm_num : (0 : ℝ) ≤ 4097)

/-- The integer part of the wrapped position as a number. -/
theorem floor_val (hf : Fine (argP V) (argW V) (argA V)) (s : Fin 441000) :
    res_main_v13 V (ix1 s) = ((⌊modLen (position (argP V) s.val)⌋ : ℝ) : EReal) :=
  read_floor (res_main_v12 V) s _ (phase_val hf s)

/-- The integer part of the wrapped position as a word. -/
theorem floor_word (hf : Fine (argP V) (argW V) (argA V)) (s : Fin 441000) :
    res_main_v16 V (ix1 s) = BitVec.ofNat 32 ⌊modLen (position (argP V) s.val)⌋.toNat := by
  show FloatOps.fptosi (F := Ideal) (φ := .f32) 32 (res_main_v13 V (ix1 s)) = _
  rw [floor_val hf]
  exact Mix.fptosi_floor _ (modLen_nonneg _) ((modLen_lt _).trans (by norm_num))

/-- A column number is not negative, so it is kept. -/
theorem keep_word : ∀ k : Fin 4097,
    Scalar.select (IntOp.cmpi .slt (BitVec.ofNat 32 k.val) 0#32) (IntOp.addi (BitVec.ofNat 32 k.val) 4097#32) (BitVec.ofNat 32 k.val)
      = BitVec.ofNat 32 k.val := by decide +kernel

/-- A column number lies in the table. -/
theorem within_word : ∀ k : Fin 4097,
    IntOp.andi (IntOp.andi (IntOp.cmpi .sge (BitVec.ofNat 32 k.val) 0#32) (IntOp.cmpi .sle (BitVec.ofNat 32 k.val) 4096#32)) 1#1 = 1#1 := by
  decide +kernel

/-- The remainder of a ceiling by the table's length. -/
theorem remi_word : ∀ k : Fin 4098, IntOp.remsi ArithUnit.host (BitVec.ofNat 32 k.val) 4097#32 = BitVec.ofNat 32 (k.val % 4097) := by
  decide +kernel

/-- A remainder has the divisor's sign already. -/
theorem wrap_word : ∀ k : Fin 4097,
    Scalar.select (IntOp.andi (IntOp.cmpi .ne (IntOp.cmpi .slt (BitVec.ofNat 32 k.val) 0#32) (IntOp.cmpi .slt 4097#32 0#32))
        (IntOp.cmpi .ne (BitVec.ofNat 32 k.val) 0#32)) (IntOp.addi (BitVec.ofNat 32 k.val) 4097#32) (BitVec.ofNat 32 k.val)
      = BitVec.ofNat 32 k.val := by decide +kernel

/-- The column number below, a number less than the table's length. -/
def lowCol (y : ℝ) (h : y < 4097) : Fin 4097 := ⟨⌊y⌋.toNat, by
  have : ⌊y⌋ < 4097 := Int.floor_lt.mpr (by exact_mod_cast h)
  omega⟩

/-- The column number above, wrapped. -/
def highCol (y : ℝ) : Fin 4097 := ⟨⌈y⌉.toNat % 4097, by omega⟩

/-- The gather's column number below. -/
theorem low_index (hf : Fine (argP V) (argW V) (argA V)) (s : Fin 441000) :
    res_main_call3_v5 V (ix2 s 0) = BitVec.ofNat 32 (lowCol (modLen (position (argP V) s.val)) (modLen_lt _)).val := by
  refine (read_index (res_main_v16 V) s).trans ?_
  rw [floor_word hf]
  exact keep_word (lowCol _ (modLen_lt _))

/-- The divisor of the ceiling. -/
theorem divisor_val : res_main_call2_v2 V ix0 = 4097#32 := rfl

/-- The remainder of the ceiling. -/
theorem ceil_rem (hf : Fine (argP V) (argW V) (argA V)) (s : Fin 441000) :
    res_main_call2_v4 V (ix1 s) = BitVec.ofNat 32 (highCol (modLen (position (argP V) s.val))).val := by
  refine (read_remi (fptosi (F := Ideal) (φ := .f32) 32 (Host.ceil (res_main_v12 V))) (res_main_call2_v2 V) s).trans ?_
  have h0 := modLen_nonneg (position (argP V) s.val)
  have h1 := modLen_lt (position (argP V) s.val)
  have c0 : 0 ≤ ⌈modLen (position (argP V) s.val)⌉ := Int.ceil_nonneg h0
  have c1 : ⌈modLen (position (argP V) s.val)⌉ ≤ 4097 := Int.ceil_le.mpr (by exact_mod_cast h1.le)
  have e : fptosi (F := Ideal) (φ := .f32) 32 (Host.ceil (res_main_v12 V)) (ix1 s)
      = BitVec.ofNat 32 ⌈modLen (position (argP V) s.val)⌉.toNat := by
    show FloatOps.fptosi (F := Ideal) (φ := .f32) 32 (Host.ceil (F := Ideal) (φ := .f32) (res_main_v12 V) (ix1 s)) = _
    rw [read_ceil (res_main_v12 V) s _ (phase_val hf s)]
    have := Mix.fptosi_floor ((⌈modLen (position (argP V) s.val)⌉ : ℤ) : ℝ) (by exact_mod_cast c0)
      (by exact_mod_cast (show ⌈modLen (position (argP V) s.val)⌉ < 2 ^ 20 by omega))
    rwa [Int.floor_intCast] at this
  rw [e, divisor_val]
  exact remi_word ⟨⌈modLen (position (argP V) s.val)⌉.toNat, by omega⟩

/-- The wrapped ceiling. -/
theorem ceil_word (hf : Fine (argP V) (argW V) (argA V)) (s : Fin 441000) :
    res_main_v18 V (ix1 s) = BitVec.ofNat 32 (highCol (modLen (position (argP V) s.val))).val := by
  refine (read_wrapi (res_main_call2_v4 V) (res_main_call2_v2 V) s).trans ?_
  rw [ceil_rem hf, divisor_val]
  exact wrap_word (highCol _)

/-- The gather's column number above. -/
theorem high_index (hf : Fine (argP V) (argW V) (argA V)) (s : Fin 441000) :
    res_main_call4_v5 V (ix2 s 0) = BitVec.ofNat 32 (highCol (modLen (position (argP V) s.val))).val := by
  refine (read_index (res_main_v18 V) s).trans ?_
  rw [ceil_word hf]
  exact keep_word (highCol _)

end Cert.Proof.Reference

end
-- ==== Proof.Reference.Value.lean ====
module

public import proofs.«01_k».proof.Proof.Reference.Index
public import proofs.«01_k».proof.Proof.Math.Softmax

@[expose] public section

set_option maxRecDepth 16384

noncomputable section

/-!
# The reference's value

The two table lookups, the interpolation between them, the softmax weights, and the weighted sum times the amplitude:
at every sample the reference computes the oscillator.
-/

namespace Cert.Proof.Reference

open Cert.ReferenceIdeal Cert.ReferenceIdeal.Gen Cert.ReferenceIdeal.Value
open Idealize.ShloMosaic Idealize.ShloMosaic.TcCoe Idealize.SL.Sem

/-- A masked lookup of the columns numbered by `J` in the table `X`, as the reference spells it. -/
abbrev lookup (X : FVec Ideal S64x4097 .f32) (J : IVec S441000x1 32) : FVec Ideal S64x441000 .f32 :=
  select (broadcastInDim S64x441000 ![1] bcast_S441000_S64x441000_1 (Host.reduce IntOp.andi
      (andi (cmpi .sge J (broadcastInDim S441000x1 ![] bcast_S_S441000x1 (constantI S_ 32 0#32)))
        (cmpi .sle J (broadcastInDim S441000x1 ![0, 1] bcast_S1x1_S441000x1_0_1
          (broadcastInDim S1x1 ![1] bcast_S1_S1x1_1 (constantI S1 32 4096#32)))))
      (constantI S_ 1 1#1) reducesTo_S441000x1_S441000_d1 h_S_))
    (Host.gather gather_S64x4097_S441000x1_S64x441000_0_1_n_n_1_1_641 X J)
    (broadcastInDim S64x441000 ![] bcast_S_S64x441000 (constant S_ .f32 0x7FC00000#32))

/-- A lookup of a column of the table reads that column. -/
theorem lookup_val (X : FVec Ideal S64x4097 .f32) (J : IVec S441000x1 32) (n : Fin 64) (s : Fin 441000) (k : Fin 4097)
    (hk : J (ix2 s 0) = BitVec.ofNat 32 k.val) : lookup X J (ix2 n s) = X (ix2 n k) := by
  refine (read_mask _ _ _ n s ?_).trans ?_
  · refine (row_and _ _ _ _ s).trans ?_
    rw [read_within J s, hk]
    exact within_word k
  · exact gather_cols (B := 64) (N := 4097) (T := 441000) _ X J n s k hk (by norm_num)

variable {V : Valuation τ sig (Elt Ideal)}

/-- The tied table. -/
theorem tied_val (hf : Fine (argP V) (argW V) (argA V)) (n : Fin 64) (k : Fin 4097) :
    res_main_v2 V (ix2 n k) = (tabOf (argW V) k.val n : EReal) := by
  refine (read_tied (argW V) n k).trans (hf.tab n _ _ ?_)
  show k.val % 4096 = k.val % 4097 % 4096
  omega

/-- The entries below. -/
theorem low_val (hf : Fine (argP V) (argW V) (argA V)) (n : Fin 64) (s : Fin 441000) :
    res_main_v19 V (ix2 n s) = (tabOf (argW V) ⌊modLen (position (argP V) s.val)⌋.toNat n : EReal) :=
  (lookup_val (res_main_v2 V) (res_main_call3_v5 V) n s _ (low_index hf s)).trans (tied_val hf n _)

/-- The entries above. -/
theorem high_val (hf : Fine (argP V) (argW V) (argA V)) (n : Fin 64) (s : Fin 441000) :
    lookup (res_main_v2 V) (res_main_call4_v5 V) (ix2 n s)
      = (tabOf (argW V) (⌈modLen (position (argP V) s.val)⌉.toNat % 4097) n : EReal) :=
  (lookup_val (res_main_v2 V) (res_main_call4_v5 V) n s _ (high_index hf s)).trans (tied_val hf n _)

/-- The table's rows repeat with the length. -/
theorem tabOf_mod (W : Tables) (k : ℕ) (n : Fin 64) : tabOf W (k % 4097) n = tabOf W k n := by
  unfold tabOf
  congr 3
  exact Fin.ext (by show k % 4097 % 4097 % 4096 = k % 4097 % 4096; rw [Nat.mod_mod])

/-- Interpolating towards the ceiling's column is interpolating towards the next column: at a whole number the two differ,
and their weight is zero. -/
theorem lerp_ceil (W : Tables) (y : ℝ) (h : 0 ≤ y) (n : Fin 64) :
    tabOf W ⌊y⌋.toNat n + (y - (⌊y⌋ : ℝ)) * (tabOf W (⌈y⌉.toNat % 4097) n - tabOf W ⌊y⌋.toNat n) = lerp (tabOf W) y n := by
  unfold lerp
  rw [tabOf_mod]
  by_cases e : y - (⌊y⌋ : ℝ) = 0
  · rw [e, zero_mul, zero_mul]
  · have hc : ⌈y⌉ = ⌊y⌋ + 1 := by
      rw [Int.ceil_eq_iff]
      have h1 := Int.floor_le y
      have h2 := Int.lt_floor_add_one y
      have h3 : (⌊y⌋ : ℝ) < y := lt_of_le_of_ne h1 fun q => e (by linarith)
      push_cast
      constructor <;> linarith
    have h0 : 0 ≤ ⌊y⌋ := Int.floor_nonneg.mpr h
    rw [hc, show (⌊y⌋ + 1).toNat = ⌊y⌋.toNat + 1 by omega]

/-- The exponentials, less the column's greatest entry. -/
theorem exp_val (hf : Fine (argP V) (argW V) (argA V)) (s : Fin 441000) :
    ∃ M : ℝ, ∀ n, res_main_v32 V (ix2 n s) = Ideal.exp ((attOf (argA V) n s.val : EReal) - (M : EReal)) := by
  have ha (n : Fin 64) : argA V (ix2 n s) = (attOf (argA V) n s.val : EReal) := by
    unfold attOf
    rw [dif_pos s.isLt]
    exact hf.att n s
  obtain ⟨M, hM⟩ := fold_max_real fun n => attOf (argA V) n s.val
  refine ⟨M, fun n => (read_exp (argA V) (Host.reduce FloatOps.maximumf (argA V) (constant (F := Ideal) S_ .f32 0xFF800000#32)
    reducesTo_S64x441000_S441000_d0 h_S_) n s).trans ?_⟩
  have hr : Host.reduce FloatOps.maximumf (argA V) (constant (F := Ideal) S_ .f32 0xFF800000#32)
      reducesTo_S64x441000_S441000_d0 h_S_ (ix1 s) = (M : EReal) := by
    refine (col_max (argA V) _ _ _ s).trans ?_
    show Finset.fold max (Ideal.ofBits .f32 4286578688#32) _ _ = _
    rw [word_least, ← hM]
    simp only [ha]
  rw [hr, word_least, max_eq_right bot_le, ha]

/-- The weighted sum over the wavetables, before the amplitude. -/
theorem voice_val (hf : Fine (argP V) (argW V) (argA V)) (s : Fin 441000) :
    Host.reduceAdd (mulf (addf (res_main_v19 V) (mulf (broadcastInDim S64x441000 ![0, 1] bcast_S1x441000_S64x441000_0_1
        (broadcastInDim S1x441000 ![1] bcast_S441000_S1x441000_1 (subf (res_main_v12 V) (res_main_v13 V))))
        (subf (lookup (res_main_v2 V) (res_main_call4_v5 V)) (res_main_v19 V))))
      (Host.divf (res_main_v32 V) (broadcastInDim S64x441000 ![0, 1] bcast_S1x441000_S64x441000_0_1
        (broadcastInDim S1x441000 ![1] bcast_S441000_S1x441000_1 (Host.reduceAdd (res_main_v32 V)
          (constant (F := Ideal) S_ .f32 0x00000000#32) reducesTo_S64x441000_S441000_d0 h_S_)))))
      (constant (F := Ideal) S_ .f32 0x00000000#32) reducesTo_S64x441000_S441000_d0 h_S_ (ix1 s)
    = (voice (tabOf (argW V)) (fun n => attOf (argA V) n s.val) (modLen (position (argP V) s.val)) : EReal) := by
  have hz : (constant (F := Ideal) S_ .f32 0x00000000#32) (Shape.Idx.first h_S_) = (0 : EReal) := by
    show Ideal.ofBits .f32 0x00000000#32 = 0
    simp [Ideal.ofBits, Ideal.ieee]
  obtain ⟨M, hM⟩ := exp_val hf s
  refine (col_sum _ _ _ _ s).trans ?_
  rw [hz, zero_add]
  have hd : Host.reduceAdd (res_main_v32 V) (constant (F := Ideal) S_ .f32 0x00000000#32) reducesTo_S64x441000_S441000_d0 h_S_ (ix1 s)
      = (∑ n, Ideal.exp ((attOf (argA V) n s.val : EReal) - (M : EReal)) : EReal) := by
    refine (col_sum (res_main_v32 V) _ _ _ s).trans ?_
    rw [hz, zero_add]
    exact Finset.sum_congr rfl fun n _ => hM n
  unfold voice
  rw [← sum_of_ratios (fun n => attOf (argA V) n s.val) (fun n => lerp (tabOf (argW V)) (modLen (position (argP V) s.val)) n) M]
  refine Finset.sum_congr rfl fun n _ => ?_
  refine (read_product (res_main_v19 V) (lookup (res_main_v2 V) (res_main_call4_v5 V)) (res_main_v32 V) (res_main_v12 V)
    (res_main_v13 V) _ n s).trans ?_
  rw [hd, hM n, low_val hf, high_val hf, phase_val hf, floor_val hf, ← EReal.coe_sub, ← EReal.coe_sub, ← EReal.coe_mul,
    ← EReal.coe_add, lerp_ceil _ _ (modLen_nonneg _)]

/-- The reference's result is the oscillator at every sample. -/
theorem result_val (hf : Fine (argP V) (argW V) (argA V)) (R : FVec Ideal S441000 .f32)
    (hR : ∀ s : Fin 441000, R (ix1 s)
      = (voice (tabOf (argW V)) (fun n => attOf (argA V) n s.val) (modLen (position (argP V) s.val)) : EReal)) :
    (mulf (broadcastInDim S1x441000x1 ![1] bcast_S441000_S1x441000x1_1 R) (argQ V) : FVec Ideal S1x441000x1 .f32)
      = fun i : S1x441000x1.Idx => oscillator (argP V) (argQ V) (argW V) (argA V) (i 1).val := by
  funext i
  obtain ⟨a, s, b, rfl⟩ : ∃ (a : Fin 1) (s : Fin 441000) (b : Fin 1), i = ix3 a s b := ⟨i 0, i 1, i 2, eq_ix3 i⟩
  obtain rfl : a = 0 := Subsingleton.elim (α := Fin 1) _ _
  obtain rfl : b = 0 := Subsingleton.elim (α := Fin 1) _ _
  refine (read_result R (argQ V) 0 s 0).trans ?_
  rw [hR]
  show _ = _ * ampOf (argQ V) s.val
  rw [ampOf, dif_pos s.isLt]
  rfl

/-- The reference's run: from fine arguments it leaves the oscillator's samples and changes no argument. -/
theorem run_value (m : (ℓ : Loc nD τ sig) → Buf (Elt Ideal) ℓ) (ρ : Dev nD → PrngReg)
    (hf : ∀ c, Fine (argP (StableHlo.launchContents m c)) (argW (StableHlo.launchContents m c)) (argA (StableHlo.launchContents m c))) :
    θ_run defs (onTc (τ := τ) (main (F := Ideal))) ⟨m, fun _ => 0, ρ⟩ fun r => ∀ c : Dev nD,
      r.2.mem ((c.tc : Thread nD τ).loc main_v40)
          = (fun i : S1x441000x1.Idx => oscillator (argP (StableHlo.launchContents m c)) (argQ (StableHlo.launchContents m c))
              (argW (StableHlo.launchContents m c)) (argA (StableHlo.launchContents m c)) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_val (hf c) _ (voice_val (hf c))), (h c).2⟩) (run m ρ)

end Cert.Proof.Reference

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_inputs_in_range
public import proofs.«01_k».proof.Proof.Kernel.Value
public import proofs.«01_k».proof.Proof.Reference.Value
public import Idealize.ShloMosaic.Adequacy
public import Idealize.ShloMosaic.Init
public import Idealize.ShloMosaic.Lib.Quiescent

@[expose] public section

noncomputable section

namespace Cert.Proof

open Idealize.ShloMosaic Idealize.SL.Sem Cert.KernelIdeal

/-- The precondition says that the arguments are real numbers and the pitches lie between 0 and 1. -/
theorem fine_of_pre_kernel (m : (ℓ : Loc nD τ sig) → Buf (Elt Ideal) ℓ)
    (h : Cert.Pre_KernelIdeal (hPre_inputs_in_range := Cert.Pre_inputs_in_range.Gen.facts) m) (c : Dev nD) :
    Fine (Kernel.argP m c) (Kernel.argW m c) (Kernel.argA m c) :=
  fine_of_pre _ (h c).1 (h c).2.1 (h c).2.2

/-- The kernel runs, leaves its arguments as they were and its counters at zero. -/
theorem frame_kernel : Cert.quiescent_KernelIdeal (hKernelIdeal := Cert.KernelIdeal.Gen.facts)
    (hPre_inputs_in_range := Cert.Pre_inputs_in_range.Gen.facts) :=
  fun m g hpre => (θ_run _ _ _).mono (fun _ h => ⟨fun c => (h.1 c).2, h.2⟩)
    (Kernel.run_value m g (fine_of_pre_kernel m hpre))

/-- The reference runs, leaves its arguments as they were and its counters at zero. -/
theorem frame_reference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-- So does the reference from arguments in the range. -/
theorem frame_reference_pre : Cert.quiescent_ReferenceIdeal_pre_inputs_in_range (hReferenceIdeal := Cert.ReferenceIdeal.Gen.facts)
    (hPre_inputs_in_range := Cert.Pre_inputs_in_range.Gen.facts) :=
  fun m g _ => frame_reference m g trivial

/-- From equal arguments in the range, the kernel and the reference both end with the oscillator's samples. -/
theorem equal_values : Cert.algebraic_KernelIdeal_ReferenceIdeal (hKernelIdeal := Cert.KernelIdeal.Gen.facts)
    (hReferenceIdeal := Cert.ReferenceIdeal.Gen.facts) (hPre_inputs_in_range := Cert.Pre_inputs_in_range.Gen.facts) := by
  intro m g m' g' hpre hagree
  have hf := fine_of_pre_kernel m hpre
  have eP (c : Dev nD) : Reference.argP (StableHlo.launchContents m' c) = Kernel.argP m c := (hagree c).1
  have eQ (c : Dev nD) : Reference.argQ (StableHlo.launchContents m' c) = Kernel.argQ m c := (hagree c).2.1
  have eW (c : Dev nD) : Reference.argW (StableHlo.launchContents m' c) = Kernel.argW m c := (hagree c).2.2.1
  have eA (c : Dev nD) : Reference.argA (StableHlo.launchContents m' c) = Kernel.argA m c := (hagree c).2.2.2.1
  refine ⟨fun c => (fun i : S1x441000x1.Idx =>
      oscillator (Kernel.argP m c) (Kernel.argQ m c) (Kernel.argW m c) (Kernel.argA m c) (i 1).val), ?_, ?_⟩
  · exact (θ_run _ _ _).mono (fun _ h => h.1) (Kernel.run_value m g hf)
  · refine (θ_run _ _ _).mono (fun _ h c => ⟨(h c).1.trans ?_, (h c).2⟩)
      (Reference.run_value m' g' fun c => by rw [eP, eW, eA]; exact hf c)
    rw [eP, eQ, eW, eA]

/-- Every claim of the certificate. -/
theorem claim : Cert.Claim := ⟨Cert.KernelIdeal.Gen.facts, Cert.ReferenceIdeal.Gen.facts, Cert.Pre_inputs_in_range.Gen.facts,
  frame_kernel, frame_reference, frame_reference_pre, equal_values⟩

end Cert.Proof

end
